-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S30x1024x4096 : Shape := ⟨3, ![30, 1024, 4096]⟩
abbrev S4096 : Shape := ⟨1, ![4096]⟩
abbrev S30x1024 : Shape := ⟨2, ![30, 1024]⟩
abbrev S30x1024x1 : Shape := ⟨3, ![30, 1024, 1]⟩
abbrev S1x1x4096 : Shape := ⟨3, ![1, 1, 4096]⟩
abbrev S_ : Shape := ⟨0, ![]⟩

class Facts : Prop where
  bitsLt_bf16_f32 : FTy.bits .bf16 < FTy.bits .f32
  bcast_S30x1024_S30x1024x1_0_1 : S30x1024.BroadcastsInDim S30x1024x1 (![0, 1] : Fin 2 → Fin S30x1024x1.rank)
  bcast_S30x1024x1_S30x1024x4096_0_1_2 : S30x1024x1.BroadcastsInDim S30x1024x4096 (![0, 1, 2] : Fin 3 → Fin S30x1024x4096.rank)
  bcast_S4096_S1x1x4096_2 : S4096.BroadcastsInDim S1x1x4096 (![2] : Fin 1 → Fin S1x1x4096.rank)
  bcast_S1x1x4096_S30x1024x4096_0_1_2 : S1x1x4096.BroadcastsInDim S30x1024x4096 (![0, 1, 2] : Fin 3 → Fin S30x1024x4096.rank)
  reducesTo_S30x1024x4096_S30x1024_d2 : S30x1024x4096.ReducesTo [2] S30x1024
  h_S_ : 0 < S_.numel
  bcast_S_S30x1024x1 : S_.BroadcastsInDim S30x1024x1 (![] : Fin 0 → Fin S30x1024x1.rank)
  reducesTo_S30x1024x1_S_d0_1_2 : S30x1024x1.ReducesTo [0, 1, 2] S_

variable [Facts]

def fn_part2 {F : FTy → Type} [FloatOps F] (main_v33 : IVec S30x1024x1 1) (main_v38 : IVec S30x1024x1 1) : IVec S_ 1 :=
  let main_v39 : IVec S30x1024x1 1 := ori main_v33 main_v38
  let main_c : IVec S_ 1 := constantI S_ 1 1#1
  let main_v40 : IVec S_ 1 := (fun x v => Host.reduce IntOp.andi x v reducesTo_S30x1024x1_S_d0_1_2 h_S_) main_v39 main_c
  main_v40

def fn_part1 {F : FTy → Type} [FloatOps F] (main_v2 : FVec F S30x1024x1 .f32) (main_v7 : FVec F S30x1024x4096 .f32) (main_v10 : FVec F S30x1024x4096 .f32) (main_v14 : FVec F S30x1024x1 .f32) (main_v19 : FVec F S30x1024x1 .f32) : IVec S_ 1 :=
  let main_v20 : FVec F S30x1024x4096 .f32 := broadcastInDim S30x1024x4096 ![0, 1, 2] bcast_S30x1024x1_S30x1024x4096_0_1_2 main_v14
  let main_v21 : FVec F S30x1024x4096 .f32 := subf main_v10 main_v20
  let main_v22 : FVec F S30x1024x4096 .f32 := broadcastInDim S30x1024x4096 ![0, 1, 2] bcast_S30x1024x1_S30x1024x4096_0_1_2 main_v19
  let main_v23 : FVec F S30x1024x4096 .f32 := mulf main_v7 main_v22
  let main_v24 : FVec F S30x1024x4096 .f32 := subf main_v21 main_v23
  let main_v25 : FVec F S30x1024x4096 .f32 := broadcastInDim S30x1024x4096 ![0, 1, 2] bcast_S30x1024x1_S30x1024x4096_0_1_2 main_v2
  let main_v26 : FVec F S30x1024x4096 .f32 := mulf main_v25 main_v24
  let main_v27 : FVec F S30x1024x4096 .f32 := Host.absf main_v26
  let main_cst_3 : FVec F S_ .f32 := constant S_ .f32 0xFF800000#32
  let main_v28 : FVec F S30x1024 .f32 := (fun x v => Host.reduce FloatOps.maximumf x v reducesTo_S30x1024x4096_S30x1024_d2 h_S_) main_v27 main_cst_3
  let main_v29 : FVec F S30x1024x1 .f32 := broadcastInDim S30x1024x1 ![0, 1] bcast_S30x1024_S30x1024x1_0_1 main_v28
  let main_cst_4 : FVec F S_ .f32 := constant S_ .f32 0x37924925#32
  let main_v30 : FVec F S30x1024x1 .f32 := broadcastInDim S30x1024x1 ![] bcast_S_S30x1024x1 main_cst_4
  let main_v31 : FVec F S30x1024x1 .f32 := mulf main_v29 main_v30
  let main_cst_5 : FVec F S_ .f32 := constant S_ .f32 0x00000000#32
  let main_v32 : FVec F S30x1024x1 .f32 := broadcastInDim S30x1024x1 ![] bcast_S_S30x1024x1 main_cst_5
  let main_v33 : IVec S30x1024x1 1 := cmpf .oeq main_v31 main_v32
  let main_cst_6 : FVec F S_ .f32 := constant S_ .f32 0x00400000#32
  let main_v34 : FVec F S30x1024x1 .f32 := broadcastInDim S30x1024x1 ![] bcast_S_S30x1024x1 main_cst_6
  let main_v35 : IVec S30x1024x1 1 := cmpf .oge main_v31 main_v34
  let main_cst_7 : FVec F S_ .f32 := constant S_ .f32 0x7E800000#32
  let main_v36 : FVec F S30x1024x1 .f32 := broadcastInDim S30x1024x1 ![] bcast_S_S30x1024x1 main_cst_7
  let main_v37 : IVec S30x1024x1 1 := cmpf .olt main_v31 main_v36
  let main_v38 : IVec S30x1024x1 1 := andi main_v35 main_v37
  fn_part2 (F := F) main_v33 main_v38

def fn {F : FTy → Type} [FloatOps F] (main_arg0 : FVec F S30x1024x4096 .bf16) (main_arg1 : FVec F S30x1024x4096 .bf16) (main_arg2 : FVec F S4096 .f32) (main_arg3 : FVec F S30x1024 .f32) (main_arg4 : FVec F S30x1024 .f32) : IVec S_ 1 :=
  let main_v0 : FVec F S30x1024x4096 .f32 := (extf .f32 · bitsLt_bf16_f32) main_arg0
  let main_v1 : FVec F S30x1024x4096 .f32 := (extf .f32 · bitsLt_bf16_f32) main_arg1
  let main_v2 : FVec F S30x1024x1 .f32 := broadcastInDim S30x1024x1 ![0, 1] bcast_S30x1024_S30x1024x1_0_1 main_arg4
  let main_v3 : FVec F S30x1024x1 .f32 := broadcastInDim S30x1024x1 ![0, 1] bcast_S30x1024_S30x1024x1_0_1 main_arg3
  let main_v4 : FVec F S30x1024x4096 .f32 := broadcastInDim S30x1024x4096 ![0, 1, 2] bcast_S30x1024x1_S30x1024x4096_0_1_2 main_v3
  let main_v5 : FVec F S30x1024x4096 .f32 := subf main_v0 main_v4
  let main_v6 : FVec F S30x1024x4096 .f32 := broadcastInDim S30x1024x4096 ![0, 1, 2] bcast_S30x1024x1_S30x1024x4096_0_1_2 main_v2
  let main_v7 : FVec F S30x1024x4096 .f32 := mulf main_v5 main_v6
  let main_v8 : FVec F S1x1x4096 .f32 := broadcastInDim S1x1x4096 ![2] bcast_S4096_S1x1x4096_2 main_arg2
  let main_v9 : FVec F S30x1024x4096 .f32 := broadcastInDim S30x1024x4096 ![0, 1, 2] bcast_S1x1x4096_S30x1024x4096_0_1_2 main_v8
  let main_v10 : FVec F S30x1024x4096 .f32 := mulf main_v1 main_v9
  let main_cst : FVec F S_ .f32 := constant S_ .f32 0x00000000#32
  let main_v11 : FVec F S30x1024 .f32 := (fun x v => Host.reduceAdd x v reducesTo_S30x1024x4096_S30x1024_d2 h_S_) main_v10 main_cst
  let main_v12 : FVec F S30x1024x1 .f32 := broadcastInDim S30x1024x1 ![0, 1] bcast_S30x1024_S30x1024x1_0_1 main_v11
  let main_cst_0 : FVec F S_ .f32 := constant S_ .f32 0x45800000#32
  let main_v13 : FVec F S30x1024x1 .f32 := broadcastInDim S30x1024x1 ![] bcast_S_S30x1024x1 main_cst_0
  let main_v14 : FVec F S30x1024x1 .f32 := Host.divf main_v12 main_v13
  let main_v15 : FVec F S30x1024x4096 .f32 := mulf main_v10 main_v7
  let main_cst_1 : FVec F S_ .f32 := constant S_ .f32 0x00000000#32
  let main_v16 : FVec F S30x1024 .f32 := (fun x v => Host.reduceAdd x v reducesTo_S30x1024x4096_S30x1024_d2 h_S_) main_v15 main_cst_1
  let main_v17 : FVec F S30x1024x1 .f32 := broadcastInDim S30x1024x1 ![0, 1] bcast_S30x1024_S30x1024x1_0_1 main_v16
  let main_cst_2 : FVec F S_ .f32 := constant S_ .f32 0x45800000#32
  let main_v18 : FVec F S30x1024x1 .f32 := broadcastInDim S30x1024x1 ![] bcast_S_S30x1024x1 main_cst_2
  let main_v19 : FVec F S30x1024x1 .f32 := Host.divf main_v17 main_v18
  fn_part1 (F := F) main_v2 main_v7 main_v10 main_v14 main_v19
-- ==== Kernel.lean ====
abbrev S30x1024x4096 : Shape := ⟨3, ![30, 1024, 4096]⟩
abbrev S4096 : Shape := ⟨1, ![4096]⟩
abbrev S30x1024 : Shape := ⟨2, ![30, 1024]⟩
abbrev S30720x4096 : Shape := ⟨2, ![30720, 4096]⟩
abbrev S1x4096 : Shape := ⟨2, ![1, 4096]⟩
abbrev S120x2x128 : Shape := ⟨3, ![120, 2, 128]⟩
abbrev S256x4096 : Shape := ⟨2, ![256, 4096]⟩
abbrev S1x2x128 : Shape := ⟨3, ![1, 2, 128]⟩
abbrev S256x128 : Shape := ⟨2, ![256, 128]⟩
abbrev S8x4096 : Shape := ⟨2, ![8, 4096]⟩
abbrev S1x1x128 : Shape := ⟨3, ![1, 1, 128]⟩
abbrev S1x128 : Shape := ⟨2, ![1, 128]⟩
abbrev S128x128 : Shape := ⟨2, ![128, 128]⟩
abbrev S32x128 : Shape := ⟨2, ![32, 128]⟩
abbrev S8x128 : Shape := ⟨2, ![8, 128]⟩
abbrev S4x8x128 : Shape := ⟨3, ![4, 8, 128]⟩
abbrev S256 : Shape := ⟨1, ![256]⟩
abbrev S256x1 : Shape := ⟨2, ![256, 1]⟩
abbrev S30x1024x1 : Shape := ⟨3, ![30, 1024, 1]⟩

abbrev nBuf : Space → Nat
  | .hbm => 18
  | .vmem => 24
  | .smem => 0
  | _ => 0

abbrev bufTy : (tb : Table) → Fin (tcTables nBuf tb) → BufTy
  | .hbm, ⟨0, _⟩ => ⟨S30x1024x4096, .bf16⟩
  | .hbm, ⟨1, _⟩ => ⟨S30x1024x4096, .bf16⟩
  | .hbm, ⟨2, _⟩ => ⟨S4096, .f32⟩
  | .hbm, ⟨3, _⟩ => ⟨S30x1024, .f32⟩
  | .hbm, ⟨4, _⟩ => ⟨S30x1024, .f32⟩
  | .hbm, ⟨5, _⟩ => ⟨S30720x4096, .bf16⟩
  | .hbm, ⟨6, _⟩ => ⟨S30720x4096, .bf16⟩
  | .hbm, ⟨7, _⟩ => ⟨S1x4096, .f32⟩
  | .hbm, ⟨8, _⟩ => ⟨S120x2x128, .f32⟩
  | .hbm, ⟨9, _⟩ => ⟨S120x2x128, .f32⟩
  | .hbm, ⟨10, _⟩ => ⟨S1x4096, .f32⟩
  | .hbm, ⟨11, _⟩ => ⟨S1x4096, .f32⟩
  | .hbm, ⟨12, _⟩ => ⟨S30720x4096, .fp8e5m2⟩
  | .hbm, ⟨13, _⟩ => ⟨S120x2x128, .f32⟩
  | .hbm, ⟨14, _⟩ => ⟨S4096, .f32⟩
  | .hbm, ⟨15, _⟩ => ⟨S4096, .f32⟩
  | .hbm, ⟨16, _⟩ => ⟨S30x1024x4096, .fp8e5m2⟩
  | .hbm, ⟨17, _⟩ => ⟨S30x1024x1, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | .local _ .vmem, ⟨8, _⟩ => ⟨S1x2x128, .f32⟩
  | .local _ .vmem, ⟨9, _⟩ => ⟨S1x4096, .f32⟩
  | .local _ .vmem, ⟨10, _⟩ => ⟨S1x4096, .f32⟩
  | .local _ .vmem, ⟨11, _⟩ => ⟨S256x4096, .fp8e5m2⟩
  | .local _ .vmem, ⟨12, _⟩ => ⟨S256x4096, .fp8e5m2⟩
  | .local _ .vmem, ⟨13, _⟩ => ⟨S1x2x128, .f32⟩
  | .local _ .vmem, ⟨14, _⟩ => ⟨S1x2x128, .f32⟩
  | .local _ .vmem, ⟨15, _⟩ => ⟨S256x4096, .f32⟩
  | .local _ .vmem, ⟨16, _⟩ => ⟨S256x4096, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S8x4096, .f32⟩
  | .local _ .vmem, ⟨23, _⟩ => ⟨S8x4096, .f32⟩
  | _, _ => ⟨S30x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![120], ![false]⟩

@[reducible] def k0_t1_loop : Scf.Loop 32 :=
  let c0_i32_18 : BitVec 32 := 0#32
  let c8_i32 : BitVec 32 := 8#32
  let v35 : BitVec 32 := Scalar.addi c0_i32_18 c8_i32
  let c1_i32 : BitVec 32 := 1#32
  ⟨c0_i32_18, v35, c1_i32⟩
def k0_mult1 (k0_t1 : Fin k0_t1_loop.trips) : BitVec 32 :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  v163
def k0_off1 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v165 : Index := Scalar.indexCast v164
  let c0_73 : Index := 0#32
  ![v165.toNat, 0]
def k0_off2 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v171 : Index := Scalar.indexCast v164
  let c0_77 : Index := 0#32
  ![v171.toNat, 0]
def k0_off3 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v211 : Index := Scalar.indexCast v164
  let c128_93 : Index := 128#32
  ![v211.toNat, 128]
def k0_off4 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v251 : Index := Scalar.indexCast v164
  let c256 : Index := 256#32
  ![v251.toNat, 256]
def k0_off5 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v291 : Index := Scalar.indexCast v164
  let c384 : Index := 384#32
  ![v291.toNat, 384]
def k0_off6 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v331 : Index := Scalar.indexCast v164
  let c512 : Index := 512#32
  ![v331.toNat, 512]
def k0_off7 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v371 : Index := Scalar.indexCast v164
  let c640 : Index := 640#32
  ![v371.toNat, 640]
def k0_off8 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v411 : Index := Scalar.indexCast v164
  let c768 : Index := 768#32
  ![v411.toNat, 768]
def k0_off9 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v451 : Index := Scalar.indexCast v164
  let c896 : Index := 896#32
  ![v451.toNat, 896]
def k0_off10 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v491 : Index := Scalar.indexCast v164
  let c1024 : Index := 1024#32
  ![v491.toNat, 1024]
def k0_off11 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v531 : Index := Scalar.indexCast v164
  let c1152 : Index := 1152#32
  ![v531.toNat, 1152]
def k0_off12 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v571 : Index := Scalar.indexCast v164
  let c1280 : Index := 1280#32
  ![v571.toNat, 1280]
def k0_off13 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v611 : Index := Scalar.indexCast v164
  let c1408 : Index := 1408#32
  ![v611.toNat, 1408]
def k0_off14 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v651 : Index := Scalar.indexCast v164
  let c1536 : Index := 1536#32
  ![v651.toNat, 1536]
def k0_off15 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v691 : Index := Scalar.indexCast v164
  let c1664 : Index := 1664#32
  ![v691.toNat, 1664]
def k0_off16 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v731 : Index := Scalar.indexCast v164
  let c1792 : Index := 1792#32
  ![v731.toNat, 1792]
def k0_off17 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v771 : Index := Scalar.indexCast v164
  let c1920 : Index := 1920#32
  ![v771.toNat, 1920]
def k0_off18 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v811 : Index := Scalar.indexCast v164
  let c2048 : Index := 2048#32
  ![v811.toNat, 2048]
def k0_off19 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v851 : Index := Scalar.indexCast v164
  let c2176 : Index := 2176#32
  ![v851.toNat, 2176]
def k0_off20 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v891 : Index := Scalar.indexCast v164
  let c2304 : Index := 2304#32
  ![v891.toNat, 2304]
def k0_off21 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v931 : Index := Scalar.indexCast v164
  let c2432 : Index := 2432#32
  ![v931.toNat, 2432]
def k0_off22 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v971 : Index := Scalar.indexCast v164
  let c2560 : Index := 2560#32
  ![v971.toNat, 2560]
def k0_off23 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1011 : Index := Scalar.indexCast v164
  let c2688 : Index := 2688#32
  ![v1011.toNat, 2688]
def k0_off24 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1051 : Index := Scalar.indexCast v164
  let c2816 : Index := 2816#32
  ![v1051.toNat, 2816]
def k0_off25 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1091 : Index := Scalar.indexCast v164
  let c2944 : Index := 2944#32
  ![v1091.toNat, 2944]
def k0_off26 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1131 : Index := Scalar.indexCast v164
  let c3072 : Index := 3072#32
  ![v1131.toNat, 3072]
def k0_off27 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1171 : Index := Scalar.indexCast v164
  let c3200 : Index := 3200#32
  ![v1171.toNat, 3200]
def k0_off28 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1211 : Index := Scalar.indexCast v164
  let c3328 : Index := 3328#32
  ![v1211.toNat, 3328]
def k0_off29 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1251 : Index := Scalar.indexCast v164
  let c3456 : Index := 3456#32
  ![v1251.toNat, 3456]
def k0_off30 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1291 : Index := Scalar.indexCast v164
  let c3584 : Index := 3584#32
  ![v1291.toNat, 3584]
def k0_off31 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1331 : Index := Scalar.indexCast v164
  let c3712 : Index := 3712#32
  ![v1331.toNat, 3712]
def k0_off32 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1371 : Index := Scalar.indexCast v164
  let c3840 : Index := 3840#32
  ![v1371.toNat, 3840]
def k0_off33 (k0_t1 : Fin k0_t1_loop.trips) : Fin 2 → Nat :=
  let c0_i32_71 : BitVec 32 := 0#32
  let c0_i32_18 : BitVec 32 := 0#32
  let c1_i32 : BitVec 32 := 1#32
  let arg19 : BitVec 32 := Scf.iv c0_i32_18 c1_i32 k0_t1
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v1411 : Index := Scalar.indexCast v164
  let c3968 : Index := 3968#32
  ![v1411.toNat, 3968]
@[reducible] def k0_t2_loop : Scf.Loop 32 :=
  let c0_i32_31 : BitVec 32 := 0#32
  let c8_i32_32 : BitVec 32 := 8#32
  let v56 : BitVec 32 := Scalar.addi c0_i32_31 c8_i32_32
  let c1_i32_33 : BitVec 32 := 1#32
  ⟨c0_i32_31, v56, c1_i32_33⟩
def k0_mult2 (k0_t2 : Fin k0_t2_loop.trips) : BitVec 32 :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  v163
def k0_off34 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v165 : Index := Scalar.indexCast v164
  let c0_73 : Index := 0#32
  ![v165.toNat, 0]
def k0_off35 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v170 : Index := Scalar.indexCast v164
  let c0_76 : Index := 0#32
  ![v170.toNat, 0]
def k0_off36 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v183 : Index := Scalar.indexCast v164
  let c128_79 : Index := 128#32
  ![v183.toNat, 128]
def k0_off37 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v196 : Index := Scalar.indexCast v164
  let c256 : Index := 256#32
  ![v196.toNat, 256]
def k0_off38 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v209 : Index := Scalar.indexCast v164
  let c384 : Index := 384#32
  ![v209.toNat, 384]
def k0_off39 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v222 : Index := Scalar.indexCast v164
  let c512 : Index := 512#32
  ![v222.toNat, 512]
def k0_off40 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v235 : Index := Scalar.indexCast v164
  let c640 : Index := 640#32
  ![v235.toNat, 640]
def k0_off41 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v248 : Index := Scalar.indexCast v164
  let c768 : Index := 768#32
  ![v248.toNat, 768]
def k0_off42 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v261 : Index := Scalar.indexCast v164
  let c896 : Index := 896#32
  ![v261.toNat, 896]
def k0_off43 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v274 : Index := Scalar.indexCast v164
  let c1024 : Index := 1024#32
  ![v274.toNat, 1024]
def k0_off44 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v287 : Index := Scalar.indexCast v164
  let c1152 : Index := 1152#32
  ![v287.toNat, 1152]
def k0_off45 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v300 : Index := Scalar.indexCast v164
  let c1280 : Index := 1280#32
  ![v300.toNat, 1280]
def k0_off46 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v313 : Index := Scalar.indexCast v164
  let c1408 : Index := 1408#32
  ![v313.toNat, 1408]
def k0_off47 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v326 : Index := Scalar.indexCast v164
  let c1536 : Index := 1536#32
  ![v326.toNat, 1536]
def k0_off48 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v339 : Index := Scalar.indexCast v164
  let c1664 : Index := 1664#32
  ![v339.toNat, 1664]
def k0_off49 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v352 : Index := Scalar.indexCast v164
  let c1792 : Index := 1792#32
  ![v352.toNat, 1792]
def k0_off50 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v365 : Index := Scalar.indexCast v164
  let c1920 : Index := 1920#32
  ![v365.toNat, 1920]
def k0_off51 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v378 : Index := Scalar.indexCast v164
  let c2048 : Index := 2048#32
  ![v378.toNat, 2048]
def k0_off52 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v391 : Index := Scalar.indexCast v164
  let c2176 : Index := 2176#32
  ![v391.toNat, 2176]
def k0_off53 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v404 : Index := Scalar.indexCast v164
  let c2304 : Index := 2304#32
  ![v404.toNat, 2304]
def k0_off54 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v417 : Index := Scalar.indexCast v164
  let c2432 : Index := 2432#32
  ![v417.toNat, 2432]
def k0_off55 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v430 : Index := Scalar.indexCast v164
  let c2560 : Index := 2560#32
  ![v430.toNat, 2560]
def k0_off56 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v443 : Index := Scalar.indexCast v164
  let c2688 : Index := 2688#32
  ![v443.toNat, 2688]
def k0_off57 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v456 : Index := Scalar.indexCast v164
  let c2816 : Index := 2816#32
  ![v456.toNat, 2816]
def k0_off58 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v469 : Index := Scalar.indexCast v164
  let c2944 : Index := 2944#32
  ![v469.toNat, 2944]
def k0_off59 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v482 : Index := Scalar.indexCast v164
  let c3072 : Index := 3072#32
  ![v482.toNat, 3072]
def k0_off60 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v495 : Index := Scalar.indexCast v164
  let c3200 : Index := 3200#32
  ![v495.toNat, 3200]
def k0_off61 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v508 : Index := Scalar.indexCast v164
  let c3328 : Index := 3328#32
  ![v508.toNat, 3328]
def k0_off62 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v521 : Index := Scalar.indexCast v164
  let c3456 : Index := 3456#32
  ![v521.toNat, 3456]
def k0_off63 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v534 : Index := Scalar.indexCast v164
  let c3584 : Index := 3584#32
  ![v534.toNat, 3584]
def k0_off64 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v547 : Index := Scalar.indexCast v164
  let c3712 : Index := 3712#32
  ![v547.toNat, 3712]
def k0_off65 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v560 : Index := Scalar.indexCast v164
  let c3840 : Index := 3840#32
  ![v560.toNat, 3840]
def k0_off66 (k0_t2 : Fin k0_t2_loop.trips) : Fin 2 → Nat :=
  let c0_i32_71 : BitVec 32 := 0#32
  let c0_i32_31 : BitVec 32 := 0#32
  let c1_i32_33 : BitVec 32 := 1#32
  let arg19 : BitVec 32 := Scf.iv c0_i32_31 c1_i32_33 k0_t2
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v573 : Index := Scalar.indexCast v164
  let c3968 : Index := 3968#32
  ![v573.toNat, 3968]
@[reducible] def k0_t3_loop : Scf.Loop 32 :=
  let c0_i32_65 : BitVec 32 := 0#32
  let c8_i32_66 : BitVec 32 := 8#32
  let v157 : BitVec 32 := Scalar.addi c0_i32_65 c8_i32_66
  let c1_i32_67 : BitVec 32 := 1#32
  ⟨c0_i32_65, v157, c1_i32_67⟩
def k0_mult3 (k0_t3 : Fin k0_t3_loop.trips) : BitVec 32 :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  v163
def k0_off67 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v165 : Index := Scalar.indexCast v164
  let c0_73 : Index := 0#32
  ![v165.toNat, 0]
def k0_off68 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v167 : Index := Scalar.indexCast v164
  let c0_74 : Index := 0#32
  ![v167.toNat, 0]
def k0_off69 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v177 : Index := Scalar.indexCast v164
  let c128_78 : Index := 128#32
  ![v177.toNat, 128]
def k0_off70 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v187 : Index := Scalar.indexCast v164
  let c256 : Index := 256#32
  ![v187.toNat, 256]
def k0_off71 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v197 : Index := Scalar.indexCast v164
  let c384 : Index := 384#32
  ![v197.toNat, 384]
def k0_off72 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v207 : Index := Scalar.indexCast v164
  let c512 : Index := 512#32
  ![v207.toNat, 512]
def k0_off73 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v217 : Index := Scalar.indexCast v164
  let c640 : Index := 640#32
  ![v217.toNat, 640]
def k0_off74 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v227 : Index := Scalar.indexCast v164
  let c768 : Index := 768#32
  ![v227.toNat, 768]
def k0_off75 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v237 : Index := Scalar.indexCast v164
  let c896 : Index := 896#32
  ![v237.toNat, 896]
def k0_off76 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v247 : Index := Scalar.indexCast v164
  let c1024 : Index := 1024#32
  ![v247.toNat, 1024]
def k0_off77 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v257 : Index := Scalar.indexCast v164
  let c1152 : Index := 1152#32
  ![v257.toNat, 1152]
def k0_off78 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v267 : Index := Scalar.indexCast v164
  let c1280 : Index := 1280#32
  ![v267.toNat, 1280]
def k0_off79 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v277 : Index := Scalar.indexCast v164
  let c1408 : Index := 1408#32
  ![v277.toNat, 1408]
def k0_off80 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v287 : Index := Scalar.indexCast v164
  let c1536 : Index := 1536#32
  ![v287.toNat, 1536]
def k0_off81 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v297 : Index := Scalar.indexCast v164
  let c1664 : Index := 1664#32
  ![v297.toNat, 1664]
def k0_off82 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v307 : Index := Scalar.indexCast v164
  let c1792 : Index := 1792#32
  ![v307.toNat, 1792]
def k0_off83 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v317 : Index := Scalar.indexCast v164
  let c1920 : Index := 1920#32
  ![v317.toNat, 1920]
def k0_off84 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v327 : Index := Scalar.indexCast v164
  let c2048 : Index := 2048#32
  ![v327.toNat, 2048]
def k0_off85 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v337 : Index := Scalar.indexCast v164
  let c2176 : Index := 2176#32
  ![v337.toNat, 2176]
def k0_off86 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v347 : Index := Scalar.indexCast v164
  let c2304 : Index := 2304#32
  ![v347.toNat, 2304]
def k0_off87 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v357 : Index := Scalar.indexCast v164
  let c2432 : Index := 2432#32
  ![v357.toNat, 2432]
def k0_off88 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v367 : Index := Scalar.indexCast v164
  let c2560 : Index := 2560#32
  ![v367.toNat, 2560]
def k0_off89 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v377 : Index := Scalar.indexCast v164
  let c2688 : Index := 2688#32
  ![v377.toNat, 2688]
def k0_off90 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v387 : Index := Scalar.indexCast v164
  let c2816 : Index := 2816#32
  ![v387.toNat, 2816]
def k0_off91 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v397 : Index := Scalar.indexCast v164
  let c2944 : Index := 2944#32
  ![v397.toNat, 2944]
def k0_off92 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v407 : Index := Scalar.indexCast v164
  let c3072 : Index := 3072#32
  ![v407.toNat, 3072]
def k0_off93 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v417 : Index := Scalar.indexCast v164
  let c3200 : Index := 3200#32
  ![v417.toNat, 3200]
def k0_off94 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v427 : Index := Scalar.indexCast v164
  let c3328 : Index := 3328#32
  ![v427.toNat, 3328]
def k0_off95 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v437 : Index := Scalar.indexCast v164
  let c3456 : Index := 3456#32
  ![v437.toNat, 3456]
def k0_off96 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v447 : Index := Scalar.indexCast v164
  let c3584 : Index := 3584#32
  ![v447.toNat, 3584]
def k0_off97 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v457 : Index := Scalar.indexCast v164
  let c3712 : Index := 3712#32
  ![v457.toNat, 3712]
def k0_off98 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v467 : Index := Scalar.indexCast v164
  let c3840 : Index := 3840#32
  ![v467.toNat, 3840]
def k0_off99 (k0_t3 : Fin k0_t3_loop.trips) : Fin 2 → Nat :=
  let c0_i32_71 : BitVec 32 := 0#32
  let c0_i32_65 : BitVec 32 := 0#32
  let c1_i32_67 : BitVec 32 := 1#32
  let arg19 : BitVec 32 := Scf.iv c0_i32_65 c1_i32_67 k0_t3
  let c1_i32_70 : BitVec 32 := 1#32
  let v161 : BitVec 32 := Scalar.muli arg19 c1_i32_70
  let v162 : BitVec 32 := Scalar.addi c0_i32_71 v161
  let c32_i32_72 : BitVec 32 := 32#32
  let v163 : BitVec 32 := Scalar.muli v162 c32_i32_72
  let v164 : BitVec 32 := v163
  let v477 : Index := Scalar.indexCast v164
  let c3968 : Index := 3968#32
  ![v477.toNat, 3968]
def k0_cond2 (i : grid0.Coords) : BitVec 1 :=
  let arg0 : BitVec 32 := BitVec.ofNat 32 (i 0).val
  let c119_i32 : BitVec 32 := 119#32
  let v158 : BitVec 1 := Scalar.cmpi .eq arg0 c119_i32
  let v159 : BitVec 32 := Scalar.extui v158
  let c0_i32_69 : BitVec 32 := 0#32
  let v160 : BitVec 1 := Scalar.cmpi .ne v159 c0_i32_69
  v160

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S30x1024x4096 : Shape := ⟨3, ![30, 1024, 4096]⟩
abbrev S4096 : Shape := ⟨1, ![4096]⟩
abbrev S30x1024 : Shape := ⟨2, ![30, 1024]⟩
abbrev S30x1024x1 : Shape := ⟨3, ![30, 1024, 1]⟩
abbrev S1x1x4096 : Shape := ⟨3, ![1, 1, 4096]⟩
abbrev S_ : Shape := ⟨0, ![]⟩
abbrev S277 : Shape := ⟨1, ![277]⟩
abbrev S1x1x277 : Shape := ⟨3, ![1, 1, 277]⟩
abbrev S30x1024x277 : Shape := ⟨3, ![30, 1024, 277]⟩

abbrev nBuf : Space → Nat
  | .hbm => 96
  | .vmem => 2
  | .smem => 0
  | _ => 0

abbrev bufTy : (tb : Table) → Fin (tcTables nBuf tb) → BufTy
  | .hbm, ⟨0, _⟩ => ⟨S30x1024x4096, .bf16⟩
  | .hbm, ⟨1, _⟩ => ⟨S30x1024x4096, .bf16⟩
  | .hbm, ⟨2, _⟩ => ⟨S4096, .f32⟩
  | .hbm, ⟨3, _⟩ => ⟨S30x1024, .f32⟩
  | .hbm, ⟨4, _⟩ => ⟨S30x1024, .f32⟩
  | .hbm, ⟨5, _⟩ => ⟨S30x1024x4096, .f32⟩
  | .hbm, ⟨6, _⟩ => ⟨S30x1024x4096, .f32⟩
  | .hbm, ⟨7, _⟩ => ⟨S30x1024x1, .f32⟩
  | .hbm, ⟨8, _⟩ => ⟨S30x1024x1, .f32⟩
  | .hbm, ⟨9, _⟩ => ⟨S30x1024x4096, .f32⟩
  | .hbm, ⟨10, _⟩ => ⟨S30x1024x4096, .f32⟩
  | .hbm, ⟨11, _⟩ => ⟨S30x1024x4096, .f32⟩
  | .hbm, ⟨12, _⟩ => ⟨S30x1024x4096, .f32⟩
  | .hbm, ⟨13, _⟩ => ⟨S1x1x4096, .f32⟩
  | .hbm, ⟨14, _⟩ => ⟨S30x1024x4096, .f32⟩
  | .hbm, ⟨15, _⟩ => ⟨S30x1024x4096, .f32⟩
  | .hbm, ⟨16, _⟩ => ⟨S_, .f32⟩
  | .hbm, ⟨17, _⟩ => ⟨S30x1024, .f32⟩
  | .hbm, ⟨18, _⟩ => ⟨S30x1024x1, .f32⟩
  | .hbm, ⟨19, _⟩ => ⟨S_, .f32⟩
  | .hbm, ⟨20, _⟩ => ⟨S30x1024x1, .f32⟩
  | .hbm, ⟨21, _⟩ => ⟨S30x1024x1, .f32⟩
  | .hbm, ⟨22, _⟩ => ⟨S30x1024x4096, .f32⟩
  | .hbm, ⟨23, _⟩ => ⟨S_, .f32⟩
  | .hbm, ⟨24, _⟩ => ⟨S30x1024, .f32⟩
  | .hbm, ⟨25, _⟩ => ⟨S30x1024x1, .f32⟩
  | .hbm, ⟨26, _⟩ => ⟨S_, .f32⟩
  | .hbm, ⟨27, _⟩ => ⟨S30x1024x1, .f32⟩
  | .hbm, ⟨28, _⟩ => ⟨S30x1024x1, .f32⟩
  | .hbm, ⟨29, _⟩ => ⟨S30x1024x4096, .f32⟩
  | .hbm, ⟨30, _⟩ => ⟨S30x1024x4096, .f32⟩
  | .hbm, ⟨31, _⟩ => ⟨S30x1024x4096, .f32⟩
  | .hbm, ⟨32, _⟩ => ⟨S30x1024x4096, .f32⟩
  | .hbm, ⟨33, _⟩ => ⟨S30x1024x4096, .f32⟩
  | .hbm, ⟨34, _⟩ => ⟨S30x1024x4096, .f32⟩
  | .hbm, ⟨35, _⟩ => ⟨S30x1024x4096, .f32⟩
  | .hbm, ⟨36, _⟩ => ⟨S30x1024x4096, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S30x1024x4096, .f32⟩
  | .hbm, ⟨42, _⟩ => ⟨S_, .f32⟩
  | .hbm, ⟨43, _⟩ => ⟨S30x1024, .f32⟩
  | .hbm, ⟨44, _⟩ => ⟨S30x1024x1, .f32⟩
  | .hbm, ⟨45, _⟩ => ⟨S_, .f32⟩
  | .hbm, ⟨46, _⟩ => ⟨S30x1024x1, .f32⟩
  | .hbm, ⟨47, _⟩ => ⟨S30x1024x1, .f32⟩
  | .hbm, ⟨48, _⟩ => ⟨S277, .f32⟩
  | .hbm, ⟨49, _⟩ => ⟨S_, .f32⟩
  | .hbm, ⟨50, _⟩ => ⟨S277, .f32⟩
  | .hbm, ⟨51, _⟩ => ⟨S277, .f32⟩
  | .hbm, ⟨52, _⟩ => ⟨S_, .f32⟩
  | .hbm, ⟨53, _⟩ => ⟨S277, .f32⟩
  | .hbm, ⟨54, _⟩ => ⟨S277, .f32⟩
  | .hbm, ⟨55, _⟩ => ⟨S1x1x277, .f32⟩
  | .hbm, ⟨56, _⟩ => ⟨S30x1024x277, .f32⟩
  | .hbm, ⟨57, _⟩ => ⟨S30x1024x277, .f32⟩
  | .hbm, ⟨58, _⟩ => ⟨S30x1024x277, .i1⟩
  | .hbm, ⟨59, _⟩ => ⟨S_, .f32⟩
  | .hbm, ⟨60, _⟩ => ⟨S_, .f32⟩
  | .hbm, ⟨61, _⟩ => ⟨S30x1024x277, .f32⟩
  | .hbm, ⟨62, _⟩ => ⟨S30x1024x277, .f32⟩
  | .hbm, ⟨63, _⟩ => ⟨S30x1024x277, .f32⟩
  | .hbm, ⟨64, _⟩ => ⟨S30x1024x277, .f32⟩
  | .hbm, ⟨65, _⟩ => ⟨S_, .f32⟩
  | .hbm, ⟨66, _⟩ => ⟨S30x1024, .f32⟩
  | .hbm, ⟨67, _⟩ => ⟨S30x1024x1, .f32⟩
  | .hbm, ⟨68, _⟩ => ⟨S_, .f32⟩
  | .hbm, ⟨69, _⟩ => ⟨S30x1024x1, .f32⟩
  | .hbm, ⟨70, _⟩ => ⟨S30x1024x1, .f32⟩
  | .hbm, ⟨71, _⟩ => ⟨S_, .f32⟩
  | .hbm, ⟨72, _⟩ => ⟨S30x1024x1, .f32⟩
  | .hbm, ⟨73, _⟩ => ⟨S30x1024x1, .i1⟩
  | .hbm, ⟨74, _⟩ => ⟨S_, .f32⟩
  | .hbm, ⟨75, _⟩ => ⟨S_, .f32⟩
  | .hbm, ⟨76, _⟩ => ⟨S30x1024x1, .f32⟩
  | .hbm, ⟨77, _⟩ => ⟨S30x1024x1, .f32⟩
  | .hbm, ⟨78, _⟩ => ⟨S_, .f32⟩
  | .hbm, ⟨79, _⟩ => ⟨S30x1024x1, .f32⟩
  | .hbm, ⟨80, _⟩ => ⟨S30x1024x1, .f32⟩
  | .hbm, ⟨81, _⟩ => ⟨S30x1024x1, .f32⟩
  | .hbm, ⟨82, _⟩ => ⟨S_, .f32⟩
  | .hbm, ⟨83, _⟩ => ⟨S30x1024x1, .f32⟩
  | .hbm, ⟨84, _⟩ => ⟨S30x1024x1, .f32⟩
  | .hbm, ⟨85, _⟩ => ⟨S30x1024x4096, .f32⟩
  | .hbm, ⟨86, _⟩ => ⟨S30x1024x4096, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S30x1024x4096, .f32⟩
  | .hbm, ⟨91, _⟩ => ⟨S30x1024x4096, .f32⟩
  | .hbm, ⟨92, _⟩ => ⟨S_, .f32⟩
  | .hbm, ⟨93, _⟩ => ⟨S30x1024x4096, .f32⟩
  | .hbm, ⟨94, _⟩ => ⟨S30x1024x4096, .f32⟩
  | .hbm, ⟨95, _⟩ => ⟨S30x1024x4096, .fp8e5m2⟩
  | .local _ .vmem, ⟨0, _⟩ => ⟨S30x1024x4096, .f32⟩
  | .local _ .vmem, ⟨1, _⟩ => ⟨S30x1024x4096, .fp8e5m2⟩
  | _, _ => ⟨S30x1024x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_cst_10 : Ref sig .tc := ⟨.hbm, 60, rfl⟩
abbrev main_call0_v0 : Ref sig .tc := ⟨.hbm, 61, rfl⟩
abbrev main_call0_v1 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_call1_v0 : Ref sig .tc := ⟨.hbm, 75, rfl⟩
abbrev main_call1_v1 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_16 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_17 : Ref sig .tc := ⟨.hbm, 87, rfl⟩
abbrev main_cst_18 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v60 : Ref sig .tc := ⟨.hbm, 94, rfl⟩
abbrev main_v61 : Ref sig .tc := ⟨.hbm, 95, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S30x1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30x1024x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelFrame.Loops.lean ====
module

public import proofs.«01_k».proof.Proof.Gen.Kernel.Skeleton
public import Idealize.ShloMosaic.Lib.Exec
public import Idealize.ShloMosaic.Lib.Tactic
public import Idealize.ShloMosaic.Lib.Pipeline.Kit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The kernel's three counted loops, with the contents of every buffer they write forgotten.
-/
variable {F : FTy → Type} [FloatOps F]

local notation "𝕄G" => MT nD τ sig Unit (Elt F) ℕ (UR sig nD τ) ℕ

/-- One trip of loop 1: what it reads stays, what it writes is left at some contents. -/
theorem tripE1 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec F S128x128 .f32) (v32 : Vec F S128x128 .f32) (X1 : BufTy.Contents (Elt F) arg1.view.ty) (X2 : BufTy.Contents (Elt F) arg2.view.ty) (X3 : BufTy.Contents (Elt F) arg3.view.ty) (X12 : BufTy.Contents (Elt F) arg12.view.ty) (X13 : BufTy.Contents (Elt F) arg13.view.ty)
    (k : Fin k0_t1_loop.trips) (E : Set ℕ) (f10 : BufTy.Contents (Elt F) arg10.view.ty) (f11 : BufTy.Contents (Elt F) arg11.view.ty) (f14 : BufTy.Contents (Elt F) arg14.view.ty) (f15 : BufTy.Contents (Elt F) arg15.view.ty) (f17 : BufTy.Contents (Elt F) arg17.view.ty) (f18 : BufTy.Contents (Elt F) arg18.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg17.view.loc (c : Thread nD τ) ↦[arg17.view.set]{fullShare} f17) ∗ (arg18.view.loc (c : Thread nD τ) ↦[arg18.view.set]{fullShare} f18)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 k PUnit.unit)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (∃ f, arg10.view.loc (c : Thread nD τ) ↦[arg10.view.set]{fullShare} f) ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f) ∗ (∃ f, arg17.view.loc (c : Thread nD τ) ↦[arg17.view.set]{fullShare} f) ∗ (∃ f, arg18.view.loc (c : Thread nD τ) ↦[arg18.view.set]{fullShare} f))) := by
  have hk : k.val < 8 := Nat.lt_of_lt_of_le k.isLt k0_t1_abs.2.1
  unfold k0_t1_body
  iintro ⟨HR1, HR2, HR3, HR12, HR13, HW10, HW11, HW14, HW15, HW17, HW18⟩
  sl_exec
  sl_step
  sl_close

set_option warn.classDefReducibility false in
/-- Loop 1 by that invariant. -/
@[sl_loop] def loopE1 (𝒱 : Variants) (c : Dev nD) (bd : Option 𝒱.V) (E : Set ℕ) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec F S128x128 .f32) (v32 : Vec F S128x128 .f32) (X1 : BufTy.Contents (Elt F) arg1.view.ty) (X2 : BufTy.Contents (Elt F) arg2.view.ty) (X3 : BufTy.Contents (Elt F) arg3.view.ty) (X12 : BufTy.Contents (Elt F) arg12.view.ty) (X13 : BufTy.Contents (Elt F) arg13.view.ty) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32) where
  inv _ _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (∃ f, arg10.view.loc (c : Thread nD τ) ↦[arg10.view.set]{fullShare} f) ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f) ∗ (∃ f, arg17.view.loc (c : Thread nD τ) ↦[arg17.view.set]{fullShare} f) ∗ (∃ f, arg18.view.loc (c : Thread nD τ) ↦[arg18.view.set]{fullShare} f))
  step k acc := by
    iintro ⟨HR1, HR2, HR3, HR12, HR13, ⟨%f10, HW10⟩, ⟨%f11, HW11⟩, ⟨%f14, HW14⟩, ⟨%f15, HW15⟩, ⟨%f17, HW17⟩, ⟨%f18, HW18⟩⟩
    iapply (tripE1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 X1 X2 X3 X12 X13 k E f10 f11 f14 f15 f17 f18)
    sl_close

/-- One trip of loop 2: what it reads stays, what it writes is left at some contents. -/
theorem tripE2 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec F S128x128 .f32) (v32 : Vec F S128x128 .f32) (X11 : BufTy.Contents (Elt F) arg11.view.ty) (X14 : BufTy.Contents (Elt F) arg14.view.ty) (X15 : BufTy.Contents (Elt F) arg15.view.ty)
    (k : Fin k0_t2_loop.trips) (E : Set ℕ) (f10 : BufTy.Contents (Elt F) arg10.view.ty) (f16 : BufTy.Contents (Elt F) arg16.view.ty) :
    (iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (arg10.view.loc (c : Thread nD τ) ↦[arg10.view.set]{fullShare} f10) ∗ (arg16.view.loc (c : Thread nD τ) ↦[arg16.view.set]{fullShare} f16)) : sProp 𝕄G)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 k PUnit.unit)
          (fun _ => iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (∃ f, arg10.view.loc (c : Thread nD τ) ↦[arg10.view.set]{fullShare} f) ∗ (∃ f, arg16.view.loc (c : Thread nD τ) ↦[arg16.view.set]{fullShare} f))) := by
  have hk : k.val < 8 := Nat.lt_of_lt_of_le k.isLt k0_t2_abs.2.1
  unfold k0_t2_body
  iintro ⟨HR11, HR14, HR15, HW10, HW16⟩
  sl_exec
  sl_step
  sl_close

set_option warn.classDefReducibility false in
/-- Loop 2 by that invariant. -/
@[sl_loop] def loopE2 (𝒱 : Variants) (c : Dev nD) (bd : Option 𝒱.V) (E : Set ℕ) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec F S128x128 .f32) (v32 : Vec F S128x128 .f32) (X11 : BufTy.Contents (Elt F) arg11.view.ty) (X14 : BufTy.Contents (Elt F) arg14.view.ty) (X15 : BufTy.Contents (Elt F) arg15.view.ty) :
    Idealize.ShloMosaic.LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32) where
  inv _ _ := iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (∃ f, arg10.view.loc (c : Thread nD τ) ↦[arg10.view.set]{fullShare} f) ∗ (∃ f, arg16.view.loc (c : Thread nD τ) ↦[arg16.view.set]{fullShare} f))
  step k acc := by
    iintro ⟨HR11, HR14, HR15, ⟨%f10, HW10⟩, ⟨%f16, HW16⟩⟩
    iapply (tripE2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 X11 X14 X15 k E f10 f16)
    sl_close

/-- One trip of loop 3: what it reads stays, what it writes is left at some contents. -/
theorem tripE3 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (X10 : BufTy.Contents (Elt F) arg10.view.ty) (X16 : BufTy.Contents (Elt F) arg16.view.ty)
    (k : Fin k0_t3_loop.trips) (E : Set ℕ) (f8 : BufTy.Contents (Elt F) arg8.view.ty) :
    (iprop((arg10.view.loc (c : Thread nD τ) ↦[arg10.view.set]{fullShare} X10) ∗ (arg16.view.loc (c : Thread nD τ) ↦[arg16.view.set]{fullShare} X16) ∗ (arg8.view.loc (c : Thread nD τ) ↦[arg8.view.set]{fullShare} f8)) : sProp 𝕄G)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k PUnit.unit)
          (fun _ => iprop((arg10.view.loc (c : Thread nD τ) ↦[arg10.view.set]{fullShare} X10) ∗ (arg16.view.loc (c : Thread nD τ) ↦[arg16.view.set]{fullShare} X16) ∗ (∃ f, arg8.view.loc (c : Thread nD τ) ↦[arg8.view.set]{fullShare} f))) := by
  have hk : k.val < 8 := Nat.lt_of_lt_of_le k.isLt k0_t3_abs.2.1
  unfold k0_t3_body
  iintro ⟨HR10, HR16, HW8⟩
  sl_exec
  sl_step
  sl_close

set_option warn.classDefReducibility false in
/-- Loop 3 by that invariant. -/
@[sl_loop] def loopE3 (𝒱 : Variants) (c : Dev nD) (bd : Option 𝒱.V) (E : Set ℕ) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (X10 : BufTy.Contents (Elt F) arg10.view.ty) (X16 : BufTy.Contents (Elt F) arg16.view.ty) :
    Idealize.ShloMosaic.LoopInv (M := MT nD τ sig Unit (Elt F) ℕ (UR sig nD τ) ℕ) Idealize.ShloMosaic.frame (wpE defs₀ 𝒱 (c : Thread nD τ) bd) E
      k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) where
  inv _ _ := iprop((arg10.view.loc (c : Thread nD τ) ↦[arg10.view.set]{fullShare} X10) ∗ (arg16.view.loc (c : Thread nD τ) ↦[arg16.view.set]{fullShare} X16) ∗ (∃ f, arg8.view.loc (c : Thread nD τ) ↦[arg8.view.set]{fullShare} f))
  step k acc := by
    iintro ⟨HR10, HR16, ⟨%f8, HW8⟩⟩
    iapply (tripE3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X10 X16 k E f8)
    sl_close

end Cert.Kernel.Gen

end
-- ==== Proof.KernelFrame.Run.lean ====
module

public import proofs.«01_k».proof.Proof.KernelFrame.Loops
public import proofs.«01_k».proof.Proof.Gen.Kernel.Frame
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The kernel's body at one grid point, with the contents of every buffer it writes forgotten.
-/
variable {F : FTy → Type} [FloatOps F]

local notation "𝕄" => MT nD τ sig Unit (Elt F) ℕ (UR sig nD τ) ℕ

/-- The condition of the zero fill, from the grid coordinates. -/
abbrev condFirst (i : grid0.Coords) : Prop := (Scalar.cmpi .ne (Scalar.extui (Scalar.cmpi .eq (BitVec.ofNat 32 (i 0).val) 0#32)) 0#32) = 1#1
/-- The condition of the last store, from the grid coordinates. -/
abbrev condLast (i : grid0.Coords) : Prop := k0_cond2 i = 1#1

set_option maxHeartbeats 2000000 in
/-- From the inputs' blocks and the other buffers at anything, the body ends with the inputs as they were. -/
theorem bodyE_TF (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (hc0 : condFirst i) (hc1 : ¬condLast i)
    (x1 : Vec F S256x4096 .bf16) (x2 : Vec F S256x4096 .bf16) (x3 : Vec F S1x4096 .f32) (x4 : Vec F S1x2x128 .f32) (x5 : Vec F S1x2x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ln_bwd_e5m2_eq_skeleton]; unfold cc0_ln_bwd_e5m2_skel
  simp only [k0_part51_eq_skeleton, k0_part52_eq_skeleton, k0_part53_eq_skeleton, k0_part54_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

set_option maxHeartbeats 2000000 in
/-- From the inputs' blocks and the other buffers at anything, the body ends with the inputs as they were. -/
theorem bodyE_FT (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (hc0 : ¬condFirst i) (hc1 : condLast i)
    (x1 : Vec F S256x4096 .bf16) (x2 : Vec F S256x4096 .bf16) (x3 : Vec F S1x4096 .f32) (x4 : Vec F S1x2x128 .f32) (x5 : Vec F S1x2x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ln_bwd_e5m2_eq_skeleton]; unfold cc0_ln_bwd_e5m2_skel
  simp only [k0_part51_eq_skeleton, k0_part52_eq_skeleton, k0_part53_eq_skeleton, k0_part54_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

set_option maxHeartbeats 2000000 in
/-- From the inputs' blocks and the other buffers at anything, the body ends with the inputs as they were. -/
theorem bodyE_FF (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (hc0 : ¬condFirst i) (hc1 : ¬condLast i)
    (x1 : Vec F S256x4096 .bf16) (x2 : Vec F S256x4096 .bf16) (x3 : Vec F S1x4096 .f32) (x4 : Vec F S1x2x128 .f32) (x5 : Vec F S1x2x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ln_bwd_e5m2_eq_skeleton]; unfold cc0_ln_bwd_e5m2_skel
  simp only [k0_part51_eq_skeleton, k0_part52_eq_skeleton, k0_part53_eq_skeleton, k0_part54_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Kernel.Gen

end
-- ==== Proof.KernelFrame.Frame.lean ====
module

public import proofs.«01_k».proof.Proof.KernelFrame.Run
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The frame: every run ends, the arguments unchanged and every semaphore counter at zero. Nothing is stated of the results.
-/
variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 120 = 0 :=
  (fun t => by
    have ht : t.val < 120 := Nat.lt_of_lt_of_eq t.isLt N_0
    have e0 : (grid0.coords t 0).val = t.val / 1 % 120 := Pipeline.Grid.coords_val t 0 (by decide) rfl
    simp only [cond0_0, e0]
    word_cmp
   : ∀ t : Fin grid0.N, cond0_0 (grid0.coords t) ↔ t.val % 120 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 120 = 119 :=
  (fun t => by
    have ht : t.val < 120 := Nat.lt_of_lt_of_eq t.isLt N_0
    have e0 : (grid0.coords t 0).val = t.val / 1 % 120 := Pipeline.Grid.coords_val t 0 (by decide) rfl
    simp only [cond0_1, k0_cond2, e0]
    word_cmp
   : ∀ t : Fin grid0.N, cond0_1 (grid0.coords t) ↔ t.val % 120 = 119)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x4096 .f32 := Memref.whole cc0_scratch0
abbrev scM0_1 : Memref sig .tc .vmem S256x4096 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6
abbrev scM0_7 : Memref sig .tc .vmem S8x4096 .f32 := Memref.whole cc0_scratch7
abbrev scM0_8 : Memref sig .tc .vmem S8x4096 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The output windows this certificate FORGETS (5, 6, 7, 8): nothing reads what the kernel leaves in them, so nothing
    of it is named (Lib/Pipeline/Dat.lean `Dat.toRForget`). -/
def forgets0 : Fin 9 → Bool := fun w => w.val == 5 || w.val == 6 || w.val == 7 || w.val == 8

/-- The proof data of the one pipeline on core `c`: the inputs at their blocks, the outputs unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 120 := lt_of_lt_of_eq t.isLt (show cfg0.N = 120 from N_0)
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, H5, H6, H7, H8⟩
  by_cases h0 : t.val % 120 = 0
  · have h1 : ¬t.val % 120 = 119 := by omega
    iapply (bodyE_TF c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · by_cases h1 : t.val % 120 = 119
    · iapply (bodyE_FT c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iapply (bodyE_FF c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch's invariant is the region's, and back. -/
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KernelIdealFrame.Loops.lean ====
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The kernel's three counted loops, with the contents of every buffer they write forgotten.
-/
variable {F : FTy → Type} [FloatOps F]

local notation "𝕄G" => MT nD τ sig Unit (Elt F) ℕ (UR sig nD τ) ℕ

/-- One trip of loop 1: what it reads stays, what it writes is left at some contents. -/
theorem tripE1 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec F S128x128 .f32) (v32 : Vec F S128x128 .f32) (X1 : BufTy.Contents (Elt F) arg1.view.ty) (X2 : BufTy.Contents (Elt F) arg2.view.ty) (X3 : BufTy.Contents (Elt F) arg3.view.ty) (X12 : BufTy.Contents (Elt F) arg12.view.ty) (X13 : BufTy.Contents (Elt F) arg13.view.ty)
    (k : Fin k0_t1_loop.trips) (E : Set ℕ) (f10 : BufTy.Contents (Elt F) arg10.view.ty) (f11 : BufTy.Contents (Elt F) arg11.view.ty) (f14 : BufTy.Contents (Elt F) arg14.view.ty) (f15 : BufTy.Contents (Elt F) arg15.view.ty) (f17 : BufTy.Contents (Elt F) arg17.view.ty) (f18 : BufTy.Contents (Elt F) arg18.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg17.view.loc (c : Thread nD τ) ↦[arg17.view.set]{fullShare} f17) ∗ (arg18.view.loc (c : Thread nD τ) ↦[arg18.view.set]{fullShare} f18)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 k PUnit.unit)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (∃ f, arg10.view.loc (c : Thread nD τ) ↦[arg10.view.set]{fullShare} f) ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f) ∗ (∃ f, arg17.view.loc (c : Thread nD τ) ↦[arg17.view.set]{fullShare} f) ∗ (∃ f, arg18.view.loc (c : Thread nD τ) ↦[arg18.view.set]{fullShare} f))) := by
  have hk : k.val < 8 := Nat.lt_of_lt_of_le k.isLt k0_t1_abs.2.1
  unfold k0_t1_body
  iintro ⟨HR1, HR2, HR3, HR12, HR13, HW10, HW11, HW14, HW15, HW17, HW18⟩
  sl_exec
  sl_step
  sl_close

set_option warn.classDefReducibility false in
/-- Loop 1 by that invariant. -/
@[sl_loop] def loopE1 (𝒱 : Variants) (c : Dev nD) (bd : Option 𝒱.V) (E : Set ℕ) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec F S128x128 .f32) (v32 : Vec F S128x128 .f32) (X1 : BufTy.Contents (Elt F) arg1.view.ty) (X2 : BufTy.Contents (Elt F) arg2.view.ty) (X3 : BufTy.Contents (Elt F) arg3.view.ty) (X12 : BufTy.Contents (Elt F) arg12.view.ty) (X13 : BufTy.Contents (Elt F) arg13.view.ty) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32) where
  inv _ _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (∃ f, arg10.view.loc (c : Thread nD τ) ↦[arg10.view.set]{fullShare} f) ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f) ∗ (∃ f, arg17.view.loc (c : Thread nD τ) ↦[arg17.view.set]{fullShare} f) ∗ (∃ f, arg18.view.loc (c : Thread nD τ) ↦[arg18.view.set]{fullShare} f))
  step k acc := by
    iintro ⟨HR1, HR2, HR3, HR12, HR13, ⟨%f10, HW10⟩, ⟨%f11, HW11⟩, ⟨%f14, HW14⟩, ⟨%f15, HW15⟩, ⟨%f17, HW17⟩, ⟨%f18, HW18⟩⟩
    iapply (tripE1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 X1 X2 X3 X12 X13 k E f10 f11 f14 f15 f17 f18)
    sl_close

/-- One trip of loop 2: what it reads stays, what it writes is left at some contents. -/
theorem tripE2 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec F S128x128 .f32) (v32 : Vec F S128x128 .f32) (X11 : BufTy.Contents (Elt F) arg11.view.ty) (X14 : BufTy.Contents (Elt F) arg14.view.ty) (X15 : BufTy.Contents (Elt F) arg15.view.ty)
    (k : Fin k0_t2_loop.trips) (E : Set ℕ) (f10 : BufTy.Contents (Elt F) arg10.view.ty) (f16 : BufTy.Contents (Elt F) arg16.view.ty) :
    (iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (arg10.view.loc (c : Thread nD τ) ↦[arg10.view.set]{fullShare} f10) ∗ (arg16.view.loc (c : Thread nD τ) ↦[arg16.view.set]{fullShare} f16)) : sProp 𝕄G)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 k PUnit.unit)
          (fun _ => iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (∃ f, arg10.view.loc (c : Thread nD τ) ↦[arg10.view.set]{fullShare} f) ∗ (∃ f, arg16.view.loc (c : Thread nD τ) ↦[arg16.view.set]{fullShare} f))) := by
  have hk : k.val < 8 := Nat.lt_of_lt_of_le k.isLt k0_t2_abs.2.1
  unfold k0_t2_body
  iintro ⟨HR11, HR14, HR15, HW10, HW16⟩
  sl_exec
  sl_step
  sl_close

set_option warn.classDefReducibility false in
/-- Loop 2 by that invariant. -/
@[sl_loop] def loopE2 (𝒱 : Variants) (c : Dev nD) (bd : Option 𝒱.V) (E : Set ℕ) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec F S128x128 .f32) (v32 : Vec F S128x128 .f32) (X11 : BufTy.Contents (Elt F) arg11.view.ty) (X14 : BufTy.Contents (Elt F) arg14.view.ty) (X15 : BufTy.Contents (Elt F) arg15.view.ty) :
    Idealize.ShloMosaic.LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32) where
  inv _ _ := iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (∃ f, arg10.view.loc (c : Thread nD τ) ↦[arg10.view.set]{fullShare} f) ∗ (∃ f, arg16.view.loc (c : Thread nD τ) ↦[arg16.view.set]{fullShare} f))
  step k acc := by
    iintro ⟨HR11, HR14, HR15, ⟨%f10, HW10⟩, ⟨%f16, HW16⟩⟩
    iapply (tripE2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 X11 X14 X15 k E f10 f16)
    sl_close

/-- One trip of loop 3: what it reads stays, what it writes is left at some contents. -/
theorem tripE3 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (X10 : BufTy.Contents (Elt F) arg10.view.ty) (X16 : BufTy.Contents (Elt F) arg16.view.ty)
    (k : Fin k0_t3_loop.trips) (E : Set ℕ) (f8 : BufTy.Contents (Elt F) arg8.view.ty) :
    (iprop((arg10.view.loc (c : Thread nD τ) ↦[arg10.view.set]{fullShare} X10) ∗ (arg16.view.loc (c : Thread nD τ) ↦[arg16.view.set]{fullShare} X16) ∗ (arg8.view.loc (c : Thread nD τ) ↦[arg8.view.set]{fullShare} f8)) : sProp 𝕄G)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k PUnit.unit)
          (fun _ => iprop((arg10.view.loc (c : Thread nD τ) ↦[arg10.view.set]{fullShare} X10) ∗ (arg16.view.loc (c : Thread nD τ) ↦[arg16.view.set]{fullShare} X16) ∗ (∃ f, arg8.view.loc (c : Thread nD τ) ↦[arg8.view.set]{fullShare} f))) := by
  have hk : k.val < 8 := Nat.lt_of_lt_of_le k.isLt k0_t3_abs.2.1
  unfold k0_t3_body
  iintro ⟨HR10, HR16, HW8⟩
  sl_exec
  sl_step
  sl_close

set_option warn.classDefReducibility false in
/-- Loop 3 by that invariant. -/
@[sl_loop] def loopE3 (𝒱 : Variants) (c : Dev nD) (bd : Option 𝒱.V) (E : Set ℕ) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (X10 : BufTy.Contents (Elt F) arg10.view.ty) (X16 : BufTy.Contents (Elt F) arg16.view.ty) :
    Idealize.ShloMosaic.LoopInv (M := MT nD τ sig Unit (Elt F) ℕ (UR sig nD τ) ℕ) Idealize.ShloMosaic.frame (wpE defs₀ 𝒱 (c : Thread nD τ) bd) E
      k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) where
  inv _ _ := iprop((arg10.view.loc (c : Thread nD τ) ↦[arg10.view.set]{fullShare} X10) ∗ (arg16.view.loc (c : Thread nD τ) ↦[arg16.view.set]{fullShare} X16) ∗ (∃ f, arg8.view.loc (c : Thread nD τ) ↦[arg8.view.set]{fullShare} f))
  step k acc := by
    iintro ⟨HR10, HR16, ⟨%f8, HW8⟩⟩
    iapply (tripE3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X10 X16 k E f8)
    sl_close

end Cert.KernelIdeal.Gen

end
-- ==== Proof.KernelIdealFrame.Run.lean ====
module

public import proofs.«01_k».proof.Proof.KernelIdealFrame.Loops
public import proofs.«01_k».proof.Proof.Gen.KernelIdeal.Frame
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The kernel's body at one grid point, with the contents of every buffer it writes forgotten.
-/
variable {F : FTy → Type} [FloatOps F]

local notation "𝕄" => MT nD τ sig Unit (Elt F) ℕ (UR sig nD τ) ℕ

/-- The condition of the zero fill, from the grid coordinates. -/
abbrev condFirst (i : grid0.Coords) : Prop := (Scalar.cmpi .ne (Scalar.extui (Scalar.cmpi .eq (BitVec.ofNat 32 (i 0).val) 0#32)) 0#32) = 1#1
/-- The condition of the last store, from the grid coordinates. -/
abbrev condLast (i : grid0.Coords) : Prop := k0_cond2 i = 1#1

set_option maxHeartbeats 2000000 in
/-- From the inputs' blocks and the other buffers at anything, the body ends with the inputs as they were. -/
theorem bodyE_TF (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (hc0 : condFirst i) (hc1 : ¬condLast i)
    (x1 : Vec F S256x4096 .bf16) (x2 : Vec F S256x4096 .bf16) (x3 : Vec F S1x4096 .f32) (x4 : Vec F S1x2x128 .f32) (x5 : Vec F S1x2x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ln_bwd_e5m2_eq_skeleton]; unfold cc0_ln_bwd_e5m2_skel
  simp only [k0_part51_eq_skeleton, k0_part52_eq_skeleton, k0_part53_eq_skeleton, k0_part54_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

set_option maxHeartbeats 2000000 in
/-- From the inputs' blocks and the other buffers at anything, the body ends with the inputs as they were. -/
theorem bodyE_FT (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (hc0 : ¬condFirst i) (hc1 : condLast i)
    (x1 : Vec F S256x4096 .bf16) (x2 : Vec F S256x4096 .bf16) (x3 : Vec F S1x4096 .f32) (x4 : Vec F S1x2x128 .f32) (x5 : Vec F S1x2x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ln_bwd_e5m2_eq_skeleton]; unfold cc0_ln_bwd_e5m2_skel
  simp only [k0_part51_eq_skeleton, k0_part52_eq_skeleton, k0_part53_eq_skeleton, k0_part54_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

set_option maxHeartbeats 2000000 in
/-- From the inputs' blocks and the other buffers at anything, the body ends with the inputs as they were. -/
theorem bodyE_FF (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (hc0 : ¬condFirst i) (hc1 : ¬condLast i)
    (x1 : Vec F S256x4096 .bf16) (x2 : Vec F S256x4096 .bf16) (x3 : Vec F S1x4096 .f32) (x4 : Vec F S1x2x128 .f32) (x5 : Vec F S1x2x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ln_bwd_e5m2_eq_skeleton]; unfold cc0_ln_bwd_e5m2_skel
  simp only [k0_part51_eq_skeleton, k0_part52_eq_skeleton, k0_part53_eq_skeleton, k0_part54_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.KernelIdeal.Gen

end
-- ==== Proof.KernelIdealFrame.Frame.lean ====
module

public import proofs.«01_k».proof.Proof.KernelIdealFrame.Run
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The frame: every run ends, the arguments unchanged and every semaphore counter at zero. Nothing is stated of the results.
-/
variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 120 = 0 :=
  (fun t => by
    have ht : t.val < 120 := Nat.lt_of_lt_of_eq t.isLt N_0
    have e0 : (grid0.coords t 0).val = t.val / 1 % 120 := Pipeline.Grid.coords_val t 0 (by decide) rfl
    simp only [cond0_0, e0]
    word_cmp
   : ∀ t : Fin grid0.N, cond0_0 (grid0.coords t) ↔ t.val % 120 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 120 = 119 :=
  (fun t => by
    have ht : t.val < 120 := Nat.lt_of_lt_of_eq t.isLt N_0
    have e0 : (grid0.coords t 0).val = t.val / 1 % 120 := Pipeline.Grid.coords_val t 0 (by decide) rfl
    simp only [cond0_1, k0_cond2, e0]
    word_cmp
   : ∀ t : Fin grid0.N, cond0_1 (grid0.coords t) ↔ t.val % 120 = 119)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x4096 .f32 := Memref.whole cc0_scratch0
abbrev scM0_1 : Memref sig .tc .vmem S256x4096 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6
abbrev scM0_7 : Memref sig .tc .vmem S8x4096 .f32 := Memref.whole cc0_scratch7
abbrev scM0_8 : Memref sig .tc .vmem S8x4096 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The output windows this certificate FORGETS (5, 6, 7, 8): nothing reads what the kernel leaves in them, so nothing
    of it is named (Lib/Pipeline/Dat.lean `Dat.toRForget`). -/
def forgets0 : Fin 9 → Bool := fun w => w.val == 5 || w.val == 6 || w.val == 7 || w.val == 8

/-- The proof data of the one pipeline on core `c`: the inputs at their blocks, the outputs unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 120 := lt_of_lt_of_eq t.isLt (show cfg0.N = 120 from N_0)
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, H5, H6, H7, H8⟩
  by_cases h0 : t.val % 120 = 0
  · have h1 : ¬t.val % 120 = 119 := by omega
    iapply (bodyE_TF c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · by_cases h1 : t.val % 120 = 119
    · iapply (bodyE_FT c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iapply (bodyE_FF c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch's invariant is the region's, and back. -/
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Value.Base.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pointwise
public import Idealize.ShloMosaic.Lib.Writes
public import Idealize.ShloMosaic.Lib.VecWindow

@[expose] public section

set_option maxRecDepth 16384

noncomputable section

namespace Cert.KernelIdeal.Gen

open Idealize.ShloMosaic Idealize.ShloMosaic.TcCoe Idealize.SL.Sem

/-
  What a row-group's stores leave: the group's 32 rows are written in 32 column chunks of 128 lanes, each
  through its own rectangle.
-/

/-- After 32 stores that tile rows `32k .. 32k+31`, each agreeing with `G`, those rows read `G`
    and the others what they read before. -/
theorem rows_read {κ : Kind} {sp : Space} {e : EltTy} (v : View sig κ sp S256x4096 e) (f : v.ty.Contents (Elt Ideal)) (k : ℕ)
    (offs : Fin 32 → Fin 2 → ℕ) (inb : ∀ c a, offs c a + S32x128.size a ≤ S256x4096.size a)
    (h0 : ∀ c, offs c 0 = 32 * k) (h1 : ∀ c, offs c 1 = 128 * c.val)
    (w : Fin 32 → S32x128.Idx → Elt Ideal e) (G : S256x4096.Idx → Elt Ideal e)
    (hG : ∀ c z, w c z = G ((Rect.unit (s := S256x4096) (offs c) S32x128.size (inb c)).emb z))
    (L : List (View.Piece (Elt Ideal) S256x4096 e))
    (hL : L = (List.ofFn fun c => (⟨Rect.unit (s := S256x4096) (offs c) S32x128.size (inb c), w c⟩ : View.Piece (Elt Ideal) S256x4096 e)).reverse)
    (y : S256x4096.Idx) :
    v.read (Elt Ideal) (v.writes (Elt Ideal) f L) y
      = if 32 * k ≤ (y 0).val ∧ (y 0).val < 32 * k + 32 then G y else v.read (Elt Ideal) f y := by
  subst hL
  split_ifs with h
  · refine View.read_writes_apply_of_pieces v f G _ ?_ y ?_
    · intro p hp x
      rw [List.mem_reverse, List.mem_ofFn] at hp
      obtain ⟨c, rfl⟩ := hp
      exact hG c x
    · have hy : (y 1).val < 4096 := (y 1).isLt
      refine ⟨_, List.mem_reverse.mpr (List.mem_ofFn.mpr ⟨⟨(y 1).val / 128, by omega⟩, rfl⟩), ?_⟩
      refine (Rect.mem_set_unit (inb := inb _)).mpr fun a => ?_
      match a with
      | ⟨0, _⟩ => show offs _ 0 ≤ (y 0).val ∧ (y 0).val < offs _ 0 + 32; rw [h0]; exact h
      | ⟨1, _⟩ => show offs _ 1 ≤ (y 1).val ∧ (y 1).val < offs _ 1 + 128; rw [h1]; show 128 * ((y 1).val / 128) ≤ _ ∧ _ < 128 * ((y 1).val / 128) + 128; omega
  · refine View.read_writes_apply_of_forall_not_mem v f y _ ?_
    intro p hp hm
    rw [List.mem_reverse, List.mem_ofFn] at hp
    obtain ⟨c, rfl⟩ := hp
    have : offs c 0 ≤ (y 0).val ∧ (y 0).val < offs c 0 + 32 := (Rect.mem_set_unit (inb := inb c)).mp hm (0 : Fin 2)
    rw [h0] at this
    exact h this

/-- The single store of a row group's 32 rows of a [256, 128] buffer. -/
theorem rows1_read {κ : Kind} {sp : Space} {e : EltTy} (v : View sig κ sp S256x128 e) (f : v.ty.Contents (Elt Ideal)) (k : ℕ)
    (off : Fin 2 → ℕ) (inb : ∀ a, off a + S32x128.size a ≤ S256x128.size a)
    (h0 : off 0 = 32 * k) (h1 : off 1 = 0) (w : S32x128.Idx → Elt Ideal e) (G : S256x128.Idx → Elt Ideal e)
    (hG : ∀ z, w z = G ((Rect.unit (s := S256x128) off S32x128.size inb).emb z)) (y : S256x128.Idx) :
    v.read (Elt Ideal) (v.writes (Elt Ideal) f [⟨Rect.unit (s := S256x128) off S32x128.size inb, w⟩]) y
      = if 32 * k ≤ (y 0).val ∧ (y 0).val < 32 * k + 32 then G y else v.read (Elt Ideal) f y := by
  split_ifs with h
  · refine View.read_writes_apply_of_pieces v f G _ ?_ y ?_
    · intro p hp x
      obtain rfl := List.mem_singleton.mp hp
      exact hG x
    · have hy : (y 1).val < 128 := (y 1).isLt
      refine ⟨_, List.mem_singleton.mpr rfl, (Rect.mem_set_unit (inb := inb)).mpr fun a => ?_⟩
      match a with
      | ⟨0, _⟩ => show off 0 ≤ (y 0).val ∧ (y 0).val < off 0 + 32; rw [h0]; exact h
      | ⟨1, _⟩ => show off 1 ≤ (y 1).val ∧ (y 1).val < off 1 + 128; rw [h1]; omega
  · refine View.read_writes_apply_of_forall_not_mem v f y _ ?_
    intro p hp hm
    obtain rfl := List.mem_singleton.mp hp
    have : off 0 ≤ (y 0).val ∧ (y 0).val < off 0 + 32 := (Rect.mem_set_unit (inb := inb)).mp hm (0 : Fin 2)
    rw [h0] at this
    exact h this

/-- After 32 stores that tile a [8, 4096] buffer by columns, each agreeing with `G`, it reads `G`. -/
theorem cols_read {κ : Kind} {sp : Space} {e : EltTy} (v : View sig κ sp S8x4096 e) (f : v.ty.Contents (Elt Ideal))
    (offs : Fin 32 → Fin 2 → ℕ) (inb : ∀ c a, offs c a + S8x128.size a ≤ S8x4096.size a)
    (h0 : ∀ c, offs c 0 = 0) (h1 : ∀ c, offs c 1 = 128 * c.val)
    (w : Fin 32 → S8x128.Idx → Elt Ideal e) (G : S8x4096.Idx → Elt Ideal e)
    (hG : ∀ c z, w c z = G ((Rect.unit (s := S8x4096) (offs c) S8x128.size (inb c)).emb z))
    (L : List (View.Piece (Elt Ideal) S8x4096 e))
    (hL : L = (List.ofFn fun c => (⟨Rect.unit (s := S8x4096) (offs c) S8x128.size (inb c), w c⟩ : View.Piece (Elt Ideal) S8x4096 e)).reverse)
    (y : S8x4096.Idx) : v.read (Elt Ideal) (v.writes (Elt Ideal) f L) y = G y := by
  subst hL
  refine View.read_writes_apply_of_pieces v f G _ ?_ y ?_
  · intro p hp x
    rw [List.mem_reverse, List.mem_ofFn] at hp
    obtain ⟨c, rfl⟩ := hp
    exact hG c x
  · have hy : (y 1).val < 4096 := (y 1).isLt
    have hy0 : (y 0).val < 8 := (y 0).isLt
    refine ⟨_, List.mem_reverse.mpr (List.mem_ofFn.mpr ⟨⟨(y 1).val / 128, by omega⟩, rfl⟩), ?_⟩
    refine (Rect.mem_set_unit (inb := inb _)).mpr fun a => ?_
    match a with
    | ⟨0, _⟩ => show offs _ 0 ≤ (y 0).val ∧ (y 0).val < offs _ 0 + 8; rw [h0]; omega
    | ⟨1, _⟩ => show offs _ 1 ≤ (y 1).val ∧ (y 1).val < offs _ 1 + 128; rw [h1]; show 128 * ((y 1).val / 128) ≤ _ ∧ _ < 128 * ((y 1).val / 128) + 128; omega

theorem lane_lt (c : Fin 32) (l : Fin 128) : 128 * c.val + l.val < 4096 := by omega

/-- Lane `z 1` of chunk `c` is column `128 c + z 1`, in the row both rectangles put `z 0` at. -/
theorem emb_lane {off off' : Fin 2 → ℕ} (inb : ∀ a, off a + S32x128.size a ≤ S256x128.size a) (inb' : ∀ a, off' a + S32x128.size a ≤ S256x4096.size a)
    (c : Fin 32) (z : S32x128.Idx) (e0 : off 0 = off' 0) (e1 : off 1 = 0) (e1' : off' 1 = 128 * c.val) :
    (Rect.unit (s := S256x4096) off' S32x128.size inb').emb z
      = (ix2 ((Rect.unit (s := S256x128) off S32x128.size inb).emb z 0) ⟨128 * c.val + ((Rect.unit (s := S256x128) off S32x128.size inb).emb z 1).val, lane_lt c _⟩ : S256x4096.Idx) := by
  funext a
  match a with
  | ⟨0, _⟩ => exact Fin.ext (by show off' 0 + 1 * (z 0).val = off 0 + 1 * (z 0).val; rw [e0])
  | ⟨1, _⟩ => exact Fin.ext (by show off' 1 + 1 * (z 1).val = 128 * c.val + (off 1 + 1 * (z 1).val); rw [e1, e1']; omega)

end Cert.KernelIdeal.Gen
-- ==== Proof.Value.Loop1.lean ====
module

public import proofs.«01_k».proof.Proof.Value.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The first loop: `xhat`, `g = dy · gamma`, the lane sums of `g` and `g · xhat` over a row group, and the
  group's share of the two parameter gradients.
-/
local notation "𝕄G" => MT nD τ sig Unit (Elt Ideal) ℕ (UR sig nD τ) ℕ

/-- The 32 chunk offsets of trip `k`. -/
def offs1 (k : Fin k0_t1_loop.trips) : Fin 32 → Fin 2 → ℕ := ![k0_off2 k, k0_off3 k, k0_off4 k, k0_off5 k, k0_off6 k, k0_off7 k, k0_off8 k, k0_off9 k, k0_off10 k, k0_off11 k, k0_off12 k, k0_off13 k, k0_off14 k, k0_off15 k, k0_off16 k, k0_off17 k, k0_off18 k, k0_off19 k, k0_off20 k, k0_off21 k, k0_off22 k, k0_off23 k, k0_off24 k, k0_off25 k, k0_off26 k, k0_off27 k, k0_off28 k, k0_off29 k, k0_off30 k, k0_off31 k, k0_off32 k, k0_off33 k]
theorem offs1_0 : ∀ (k : Fin k0_t1_loop.trips) (c : Fin 32), offs1 k c 0 = 32 * k.val := by decide +kernel
theorem offs1_1 : ∀ (k : Fin k0_t1_loop.trips) (c : Fin 32), offs1 k c 1 = 128 * c.val := by decide +kernel
theorem offs1_inb : ∀ (k : Fin k0_t1_loop.trips) (c : Fin 32) (a : Fin 2), offs1 k c a + S32x128.size a ≤ S256x4096.size a := by decide +kernel
theorem off1_0 : ∀ (k : Fin k0_t1_loop.trips), k0_off1 k 0 = 32 * k.val := by decide +kernel
theorem off1_1 : ∀ (k : Fin k0_t1_loop.trips), k0_off1 k 1 = 0 := by decide +kernel
/-- The chunk offsets of a one-row and of an eight-row buffer. -/
def offsR (c : Fin 32) : Fin 2 → ℕ := ![0, 128 * c.val]
theorem offsR_inb : ∀ (c : Fin 32) (a : Fin 2), offsR c a + S1x128.size a ≤ S1x4096.size a := by decide +kernel
def offsC (c : Fin 32) : Fin 2 → ℕ := ![0, 128 * c.val]
theorem offsC_inb : ∀ (c : Fin 32) (a : Fin 2), offsC c a + S8x128.size a ≤ S8x4096.size a := by decide +kernel

theorem row_lt {k : ℕ} (hk : k < k0_t1_loop.trips) (q : Fin 4) (s : Fin 8) : 32 * k + (8 * q.val + s.val) < 256 := by
  have : k < 8 := Nat.lt_of_lt_of_le hk k0_t1_abs.2.1
  omega

/-- One element of `xhat`, of `g`, and a sum over 32 chunks from zero on. -/
def XHE (x : S256x4096.Idx → EReal) (mu rs : Fin 256 → EReal) (y : S256x4096.Idx) : EReal := (x y - mu (y 0)) * rs (y 0)
def GE (dy : S256x4096.Idx → EReal) (ga : Fin 4096 → EReal) (y : S256x4096.Idx) : EReal := dy y * ga (y 1)
def SUMC (g : Fin 32 → EReal) : EReal := (List.ofFn g).foldl (· + ·) (Ideal.ofBits .f32 0x00000000#32)

theorem pay7_apply (u : Vec Ideal S32x128 .bf16) (v : Vec Ideal S1x128 .f32) (z : S32x128.Idx) : (k0_pay7 (F := Ideal) u v z : EReal) = u z * v (ix2 0 (z 1)) := by
  pointwise [k0_pay7, k0_pay5]
theorem pay6_apply (a b : Vec Ideal S32x128 .f32) (u : Vec Ideal S32x128 .bf16) (z : S32x128.Idx) : (k0_pay6 (F := Ideal) a b u z : EReal) = (u z - a z) * b z := by
  pointwise [k0_pay6]
theorem pay10_apply (u : Vec Ideal S32x128 .bf16) (v : Vec Ideal S1x128 .f32) (z : S32x128.Idx) : (k0_pay10 (F := Ideal) u v z : EReal) = u z * v (ix2 0 (z 1)) := by
  pointwise [k0_pay10, k0_pay7, k0_pay5]
theorem pay11_apply (a b : Vec Ideal S32x128 .f32) (u : Vec Ideal S32x128 .bf16) (z : S32x128.Idx) : (k0_pay11 (F := Ideal) a b u z : EReal) = (u z - a z) * b z := by
  pointwise [k0_pay11, k0_pay6]
theorem pay12_apply (a b : Vec Ideal S32x128 .f32) (u w : Vec Ideal S32x128 .bf16) (d : Vec Ideal S8x128 .f32) (z : S8x128.Idx) :
    (k0_pay13 (F := Ideal) (k0_pay12 (F := Ideal) a b u w d) z : EReal)
      = d z + ∑ q : Fin 4, (w (ix2 ⟨q.val * 8 + (z 0).val, by have := (z 0).isLt; change _ < 8 at this; omega⟩ (z 1)) : EReal)
          * (((u (ix2 ⟨q.val * 8 + (z 0).val, by have := (z 0).isLt; change _ < 8 at this; omega⟩ (z 1)) : EReal) - a (ix2 ⟨q.val * 8 + (z 0).val, by have := (z 0).isLt; change _ < 8 at this; omega⟩ (z 1))) * b (ix2 ⟨q.val * 8 + (z 0).val, by have := (z 0).isLt; change _ < 8 at this; omega⟩ (z 1))) := by
  pointwise [k0_pay13, k0_pay12, k0_pay6, k0_pay5]
theorem pay14_apply (w : Vec Ideal S32x128 .bf16) (d : Vec Ideal S8x128 .f32) (z : S8x128.Idx) :
    (k0_pay14 (F := Ideal) (k0_pay5 (F := Ideal) w) d z : EReal)
      = d z + ∑ q : Fin 4, (w (ix2 ⟨q.val * 8 + (z 0).val, by have := (z 0).isLt; change _ < 8 at this; omega⟩ (z 1)) : EReal) := by
  pointwise [k0_pay14, k0_pay5]

/-- A running sum over the 32 chunks, as the trip computes it. -/
def sumChain (u : Fin 32 → FVec Ideal S32x128 .f32) : FVec Ideal S32x128 .f32 :=
  shapeCast S32x128 ((List.ofFn u).foldl addf (broadcast S32x128 (Scalar.ofBits .f32 0x00000000#32))) shapeCasts_S32x128_S32x128

theorem foldl_addf_apply (y : S32x128.Idx) : ∀ (l : List (FVec Ideal S32x128 .f32)) (z : FVec Ideal S32x128 .f32),
    (l.foldl addf z y : EReal) = (l.map fun f => (f y : EReal)).foldl (· + ·) (z y : EReal)
  | [], _ => rfl
  | f :: l, z => foldl_addf_apply y l (addf z f)

theorem sumChain_apply (u : Fin 32 → FVec Ideal S32x128 .f32) (y : S32x128.Idx) : (sumChain u y : EReal) = SUMC fun c => u c y := by
  unfold sumChain SUMC
  pointwise
  rw [foldl_addf_apply, List.map_ofFn]
  rfl

set_option maxHeartbeats 1000000 in
/-- One trip of the first loop. -/
theorem trip1 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec Ideal S128x128 .f32) (v32 : Vec Ideal S128x128 .f32)
    (x dy : S256x4096.Idx → EReal) (ga : Fin 4096 → EReal) (mu rs : Fin 256 → EReal)
    (X1 : BufTy.Contents (Elt Ideal) arg1.view.ty) (X2 : BufTy.Contents (Elt Ideal) arg2.view.ty) (X3 : BufTy.Contents (Elt Ideal) arg3.view.ty) (X12 : BufTy.Contents (Elt Ideal) arg12.view.ty) (X13 : BufTy.Contents (Elt Ideal) arg13.view.ty)
    (h1 : ∀ y, (arg1.view.read (Elt Ideal) X1 y : EReal) = x y) (h2 : ∀ y, (arg2.view.read (Elt Ideal) X2 y : EReal) = dy y)
    (h3 : ∀ y, (arg3.view.read (Elt Ideal) X3 y : EReal) = ga (y 1))
    (h12 : ∀ y, (arg12.view.read (Elt Ideal) X12 y : EReal) = mu (y 0)) (h13 : ∀ y, (arg13.view.read (Elt Ideal) X13 y : EReal) = rs (y 0))
    (k : Fin k0_t1_loop.trips) (E : Set ℕ) (f10 : BufTy.Contents (Elt Ideal) arg10.view.ty) (f11 : BufTy.Contents (Elt Ideal) arg11.view.ty) (f14 : BufTy.Contents (Elt Ideal) arg14.view.ty) (f15 : BufTy.Contents (Elt Ideal) arg15.view.ty) (f17 : BufTy.Contents (Elt Ideal) arg17.view.ty) (f18 : BufTy.Contents (Elt Ideal) arg18.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg17.view.loc (c : Thread nD τ) ↦[arg17.view.set]{fullShare} f17) ∗ (arg18.view.loc (c : Thread nD τ) ↦[arg18.view.set]{fullShare} f18)) : sProp 𝕄G)
      ⊢ wp frame (wpE (defs₀ (F := Ideal)) 𝒱 (c : Thread nD τ) bd) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 k PUnit.unit)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (∃ f, (arg10.view.loc (c : Thread nD τ) ↦[arg10.view.set]{fullShare} f) ∗ ⌜∀ y, (arg10.view.read (Elt Ideal) f y : EReal) = if 32 * k.val ≤ (y 0).val ∧ (y 0).val < 32 * k.val + 32 then GE dy ga y else arg10.view.read (Elt Ideal) f10 y⌝)
            ∗ (∃ f, (arg11.view.loc (c : Thread nD τ) ↦[arg11.view.set]{fullShare} f) ∗ ⌜∀ y, (arg11.view.read (Elt Ideal) f y : EReal) = if 32 * k.val ≤ (y 0).val ∧ (y 0).val < 32 * k.val + 32 then XHE x mu rs y else arg11.view.read (Elt Ideal) f11 y⌝)
            ∗ (∃ f, (arg14.view.loc (c : Thread nD τ) ↦[arg14.view.set]{fullShare} f) ∗ ⌜∀ y, (arg14.view.read (Elt Ideal) f y : EReal) = if 32 * k.val ≤ (y 0).val ∧ (y 0).val < 32 * k.val + 32 then SUMC (fun c => GE dy ga (ix2 (y 0) ⟨128 * c.val + (y 1).val, lane_lt c (y 1)⟩)) else arg14.view.read (Elt Ideal) f14 y⌝)
            ∗ (∃ f, (arg15.view.loc (c : Thread nD τ) ↦[arg15.view.set]{fullShare} f) ∗ ⌜∀ y, (arg15.view.read (Elt Ideal) f y : EReal) = if 32 * k.val ≤ (y 0).val ∧ (y 0).val < 32 * k.val + 32 then SUMC (fun c => GE dy ga (ix2 (y 0) ⟨128 * c.val + (y 1).val, lane_lt c (y 1)⟩) * XHE x mu rs (ix2 (y 0) ⟨128 * c.val + (y 1).val, lane_lt c (y 1)⟩)) else arg15.view.read (Elt Ideal) f15 y⌝)
            ∗ (∃ f, (arg17.view.loc (c : Thread nD τ) ↦[arg17.view.set]{fullShare} f) ∗ ⌜∀ y, (arg17.view.read (Elt Ideal) f y : EReal) = (arg17.view.read (Elt Ideal) f17 y : EReal) + ∑ q : Fin 4, dy (ix2 ⟨32 * k.val + (8 * q.val + (y 0).val), row_lt k.isLt q (y 0)⟩ (y 1)) * XHE x mu rs (ix2 ⟨32 * k.val + (8 * q.val + (y 0).val), row_lt k.isLt q (y 0)⟩ (y 1))⌝)
            ∗ (∃ f, (arg18.view.loc (c : Thread nD τ) ↦[arg18.view.set]{fullShare} f) ∗ ⌜∀ y, (arg18.view.read (Elt Ideal) f y : EReal) = (arg18.view.read (Elt Ideal) f18 y : EReal) + ∑ q : Fin 4, dy (ix2 ⟨32 * k.val + (8 * q.val + (y 0).val), row_lt k.isLt q (y 0)⟩ (y 1))⌝))) := by
  have hk : k.val < 8 := Nat.lt_of_lt_of_le k.isLt k0_t1_abs.2.1
  have hmu : ∀ (c : Fin 32) (z : S32x128.Idx), ((arg12.view.readAt (Elt Ideal) (Rect.unit (s := S256x128) (k0_off1 k) S32x128.size (k0_off1_inb k)).toLoadRect X12) z : EReal) = mu ((Rect.unit (s := S256x4096) (offs1 k c) S32x128.size (offs1_inb k c)).emb z 0) := fun c z =>
    (h12 _).trans (congrArg mu (Fin.ext (by show k0_off1 k 0 + 1 * (z 0).val = offs1 k c 0 + 1 * (z 0).val; rw [off1_0, offs1_0])))
  have hrs : ∀ (c : Fin 32) (z : S32x128.Idx), ((arg13.view.readAt (Elt Ideal) (Rect.unit (s := S256x128) (k0_off1 k) S32x128.size (k0_off1_inb k)).toLoadRect X13) z : EReal) = rs ((Rect.unit (s := S256x4096) (offs1 k c) S32x128.size (offs1_inb k c)).emb z 0) := fun c z =>
    (h13 _).trans (congrArg rs (Fin.ext (by show k0_off1 k 0 + 1 * (z 0).val = offs1 k c 0 + 1 * (z 0).val; rw [off1_0, offs1_0])))
  have hga : ∀ (c : Fin 32) (z : S32x128.Idx), ((arg3.view.readAt (Elt Ideal) (Rect.unit (s := S1x4096) (offsR c) S1x128.size (offsR_inb c)).toLoadRect X3) (ix2 0 (z 1)) : EReal) = ga ((Rect.unit (s := S256x4096) (offs1 k c) S32x128.size (offs1_inb k c)).emb z 1) := fun c z =>
    (h3 _).trans (congrArg ga (Fin.ext (by show 128 * c.val + 1 * (z 1).val = offs1 k c 1 + 1 * (z 1).val; rw [offs1_1])))
  have hG : ∀ (c : Fin 32) (z : S32x128.Idx), ((arg2.view.readAt (Elt Ideal) (Rect.unit (s := S256x4096) (offs1 k c) S32x128.size (offs1_inb k c)).toLoadRect X2) z : EReal) * (arg3.view.readAt (Elt Ideal) (Rect.unit (s := S1x4096) (offsR c) S1x128.size (offsR_inb c)).toLoadRect X3) (ix2 0 (z 1)) = GE dy ga ((Rect.unit (s := S256x4096) (offs1 k c) S32x128.size (offs1_inb k c)).emb z) := fun c z =>
    congrArg₂ (· * ·) (h2 _) (hga c z)
  have hX : ∀ (c : Fin 32) (z : S32x128.Idx), (((arg1.view.readAt (Elt Ideal) (Rect.unit (s := S256x4096) (offs1 k c) S32x128.size (offs1_inb k c)).toLoadRect X1) z : EReal) - (arg12.view.readAt (Elt Ideal) (Rect.unit (s := S256x128) (k0_off1 k) S32x128.size (k0_off1_inb k)).toLoadRect X12) z) * (arg13.view.readAt (Elt Ideal) (Rect.unit (s := S256x128) (k0_off1 k) S32x128.size (k0_off1_inb k)).toLoadRect X13) z = XHE x mu rs ((Rect.unit (s := S256x4096) (offs1 k c) S32x128.size (offs1_inb k c)).emb z) := fun c z =>
    congrArg₂ (· * ·) (congrArg₂ (· - ·) (h1 _) (hmu c z)) (hrs c z)
  have hrow : ∀ (c : Fin 32) (z : S8x128.Idx) (q : Fin 4) (hq : q.val * 8 + (z 0).val < 32),
      (Rect.unit (s := S256x4096) (offs1 k c) S32x128.size (offs1_inb k c)).emb (ix2 ⟨q.val * 8 + (z 0).val, hq⟩ (z 1))
        = (ix2 ⟨32 * k.val + (8 * q.val + ((Rect.unit (s := S8x4096) (offsC c) S8x128.size (offsC_inb c)).emb z 0).val), row_lt k.isLt q _⟩ ((Rect.unit (s := S8x4096) (offsC c) S8x128.size (offsC_inb c)).emb z 1) : S256x4096.Idx) := by
    intro c z q hq
    funext a
    match a with
    | ⟨0, _⟩ => exact Fin.ext (by show offs1 k c 0 + 1 * (q.val * 8 + (z 0).val) = 32 * k.val + (8 * q.val + (0 + 1 * (z 0).val)); rw [offs1_0]; omega)
    | ⟨1, _⟩ => exact Fin.ext (by show offs1 k c 1 + 1 * (z 1).val = 128 * c.val + 1 * (z 1).val; rw [offs1_1])
  unfold k0_t1_body
  iintro ⟨HR1, HR2, HR3, HR12, HR13, HW10, HW11, HW14, HW15, HW17, HW18⟩
  sl_exec
  sl_step
  isplitl [HR1]
  · iexact HR1
  isplitl [HR2]
  · iexact HR2
  isplitl [HR3]
  · iexact HR3
  isplitl [HR12]
  · iexact HR12
  isplitl [HR13]
  · iexact HR13
  isplitl [HW10]
  · iexists _
    isplitl
    · iexact HW10
    ipureintro
    intro y
    refine rows_read arg10.view f10 k.val (offs1 k) (offs1_inb k) (offs1_0 k) (offs1_1 k)
      (fun c => k0_pay10 (F := Ideal) (arg2.view.readAt (Elt Ideal) (Rect.unit (s := S256x4096) (offs1 k c) S32x128.size (offs1_inb k c)).toLoadRect X2) (arg3.view.readAt (Elt Ideal) (Rect.unit (s := S1x4096) (offsR c) S1x128.size (offsR_inb c)).toLoadRect X3))
      (fun y => GE dy ga y) ?_ _ ?_ y
    · intro c z
      exact (pay10_apply _ _ z).trans (hG c z)
    · rfl
  isplitl [HW11]
  · iexists _
    isplitl
    · iexact HW11
    ipureintro
    intro y
    refine rows_read arg11.view f11 k.val (offs1 k) (offs1_inb k) (offs1_0 k) (offs1_1 k)
      (fun c => k0_pay11 (F := Ideal) (arg12.view.readAt (Elt Ideal) (Rect.unit (s := S256x128) (k0_off1 k) S32x128.size (k0_off1_inb k)).toLoadRect X12) (arg13.view.readAt (Elt Ideal) (Rect.unit (s := S256x128) (k0_off1 k) S32x128.size (k0_off1_inb k)).toLoadRect X13) (arg1.view.readAt (Elt Ideal) (Rect.unit (s := S256x4096) (offs1 k c) S32x128.size (offs1_inb k c)).toLoadRect X1))
      (fun y => XHE x mu rs y) ?_ _ ?_ y
    · intro c z
      exact (pay11_apply _ _ _ z).trans (hX c z)
    · rfl
  isplitl [HW14]
  · iexists _
    isplitl
    · iexact HW14
    ipureintro
    intro y
    refine (congrFun (congrArg (fun w => arg14.view.read (Elt Ideal) (arg14.view.writes (Elt Ideal) f14 [⟨(Rect.unit (s := S256x128) (k0_off1 k) S32x128.size (k0_off1_inb k)), w⟩]))
      (?_ : _ = sumChain (fun c => k0_pay7 (F := Ideal) (arg2.view.readAt (Elt Ideal) (Rect.unit (s := S256x4096) (offs1 k c) S32x128.size (offs1_inb k c)).toLoadRect X2) (arg3.view.readAt (Elt Ideal) (Rect.unit (s := S1x4096) (offsR c) S1x128.size (offsR_inb c)).toLoadRect X3)))) y).trans ?_
    · rfl
    refine rows1_read arg14.view f14 k.val (k0_off1 k) (k0_off1_inb k) (off1_0 k) (off1_1 k) _
      (fun y => SUMC (fun c => GE dy ga (ix2 (y 0) ⟨128 * c.val + (y 1).val, lane_lt c (y 1)⟩))) ?_ y
    intro z
    refine (sumChain_apply _ z).trans (congrArg SUMC (funext fun c => ?_))
    have e0 := emb_lane (k0_off1_inb k) (offs1_inb k c) c z ((off1_0 k).trans (offs1_0 k c).symm) (off1_1 k) (offs1_1 k c)
    exact (pay7_apply _ _ z).trans ((hG c z).trans (congrArg (GE dy ga) e0))
  isplitl [HW15]
  · iexists _
    isplitl
    · iexact HW15
    ipureintro
    intro y
    refine (congrFun (congrArg (fun w => arg15.view.read (Elt Ideal) (arg15.view.writes (Elt Ideal) f15 [⟨(Rect.unit (s := S256x128) (k0_off1 k) S32x128.size (k0_off1_inb k)), w⟩]))
      (?_ : _ = sumChain (fun c => mulf (k0_pay7 (F := Ideal) (arg2.view.readAt (Elt Ideal) (Rect.unit (s := S256x4096) (offs1 k c) S32x128.size (offs1_inb k c)).toLoadRect X2) (arg3.view.readAt (Elt Ideal) (Rect.unit (s := S1x4096) (offsR c) S1x128.size (offsR_inb c)).toLoadRect X3)) (k0_pay6 (F := Ideal) (arg12.view.readAt (Elt Ideal) (Rect.unit (s := S256x128) (k0_off1 k) S32x128.size (k0_off1_inb k)).toLoadRect X12) (arg13.view.readAt (Elt Ideal) (Rect.unit (s := S256x128) (k0_off1 k) S32x128.size (k0_off1_inb k)).toLoadRect X13) (arg1.view.readAt (Elt Ideal) (Rect.unit (s := S256x4096) (offs1 k c) S32x128.size (offs1_inb k c)).toLoadRect X1))))) y).trans ?_
    · rfl
    refine rows1_read arg15.view f15 k.val (k0_off1 k) (k0_off1_inb k) (off1_0 k) (off1_1 k) _
      (fun y => SUMC (fun c => GE dy ga (ix2 (y 0) ⟨128 * c.val + (y 1).val, lane_lt c (y 1)⟩) * XHE x mu rs (ix2 (y 0) ⟨128 * c.val + (y 1).val, lane_lt c (y 1)⟩))) ?_ y
    intro z
    refine (sumChain_apply _ z).trans (congrArg SUMC (funext fun c => ?_))
    have e0 := emb_lane (k0_off1_inb k) (offs1_inb k c) c z ((off1_0 k).trans (offs1_0 k c).symm) (off1_1 k) (offs1_1 k c)
    exact congrArg₂ (· * ·) ((pay7_apply _ _ z).trans ((hG c z).trans (congrArg (GE dy ga) e0))) ((pay6_apply _ _ _ z).trans ((hX c z).trans (congrArg (XHE x mu rs) e0)))
  isplitl [HW17]
  · iexists _
    isplitl
    · iexact HW17
    ipureintro
    intro y
    refine cols_read arg17.view f17 offsC offsC_inb (fun _ => rfl) (fun _ => rfl)
      (fun c => k0_pay13 (F := Ideal) (k0_pay12 (F := Ideal) (arg12.view.readAt (Elt Ideal) (Rect.unit (s := S256x128) (k0_off1 k) S32x128.size (k0_off1_inb k)).toLoadRect X12) (arg13.view.readAt (Elt Ideal) (Rect.unit (s := S256x128) (k0_off1 k) S32x128.size (k0_off1_inb k)).toLoadRect X13) (arg1.view.readAt (Elt Ideal) (Rect.unit (s := S256x4096) (offs1 k c) S32x128.size (offs1_inb k c)).toLoadRect X1) (arg2.view.readAt (Elt Ideal) (Rect.unit (s := S256x4096) (offs1 k c) S32x128.size (offs1_inb k c)).toLoadRect X2) (arg17.view.readAt (Elt Ideal) (Rect.unit (s := S8x4096) (offsC c) S8x128.size (offsC_inb c)).toLoadRect f17)))
      (fun y => (arg17.view.read (Elt Ideal) f17 y : EReal) + ∑ q : Fin 4, dy (ix2 ⟨32 * k.val + (8 * q.val + (y 0).val), row_lt k.isLt q (y 0)⟩ (y 1)) * XHE x mu rs (ix2 ⟨32 * k.val + (8 * q.val + (y 0).val), row_lt k.isLt q (y 0)⟩ (y 1))) ?_ _ ?_ y
    · intro c z
      refine (pay12_apply _ _ _ _ _ z).trans (congrArg₂ (· + ·) rfl (Finset.sum_congr rfl fun q _ => ?_))
      exact congrArg₂ (· * ·) ((h2 _).trans (congrArg dy (hrow c z q _))) ((hX c _).trans (congrArg (XHE x mu rs) (hrow c z q _)))
    · rfl
  iexists _
  isplitl
  · iexact HW18
  ipureintro
  intro y
  refine cols_read arg18.view f18 offsC offsC_inb (fun _ => rfl) (fun _ => rfl)
    (fun c => k0_pay14 (F := Ideal) (k0_pay5 (F := Ideal) (arg2.view.readAt (Elt Ideal) (Rect.unit (s := S256x4096) (offs1 k c) S32x128.size (offs1_inb k c)).toLoadRect X2)) (arg18.view.readAt (Elt Ideal) (Rect.unit (s := S8x4096) (offsC c) S8x128.size (offsC_inb c)).toLoadRect f18))
    (fun y => (arg18.view.read (Elt Ideal) f18 y : EReal) + ∑ q : Fin 4, dy (ix2 ⟨32 * k.val + (8 * q.val + (y 0).val), row_lt k.isLt q (y 0)⟩ (y 1))) ?_ _ ?_ y
  · intro c z
    refine (pay14_apply _ _ z).trans (congrArg₂ (· + ·) rfl (Finset.sum_congr rfl fun q _ => ?_))
    exact (h2 _).trans (congrArg dy (hrow c z q _))
  · rfl

end Cert.KernelIdeal.Gen

end
-- ==== Proof.Value.Loop2.lean ====
module

public import proofs.«01_k».proof.Proof.Value.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The second loop: `z = (g − mean g) − xhat · mean (g · xhat)` over a row group, and the group's running
  maximum of `|z|` lane by lane.
-/
local notation "𝕄G" => MT nD τ sig Unit (Elt Ideal) ℕ (UR sig nD τ) ℕ

/-- The 32 chunk offsets of trip `k`. -/
def offs2 (k : Fin k0_t2_loop.trips) : Fin 32 → Fin 2 → ℕ := ![k0_off35 k, k0_off36 k, k0_off37 k, k0_off38 k, k0_off39 k, k0_off40 k, k0_off41 k, k0_off42 k, k0_off43 k, k0_off44 k, k0_off45 k, k0_off46 k, k0_off47 k, k0_off48 k, k0_off49 k, k0_off50 k, k0_off51 k, k0_off52 k, k0_off53 k, k0_off54 k, k0_off55 k, k0_off56 k, k0_off57 k, k0_off58 k, k0_off59 k, k0_off60 k, k0_off61 k, k0_off62 k, k0_off63 k, k0_off64 k, k0_off65 k, k0_off66 k]
theorem offs2_0 : ∀ (k : Fin k0_t2_loop.trips) (c : Fin 32), offs2 k c 0 = 32 * k.val := by decide +kernel
theorem offs2_1 : ∀ (k : Fin k0_t2_loop.trips) (c : Fin 32), offs2 k c 1 = 128 * c.val := by decide +kernel
theorem offs2_inb : ∀ (k : Fin k0_t2_loop.trips) (c : Fin 32) (a : Fin 2), offs2 k c a + S32x128.size a ≤ S256x4096.size a := by decide +kernel
theorem off34_0 : ∀ (k : Fin k0_t2_loop.trips), k0_off34 k 0 = 32 * k.val := by decide +kernel
theorem off34_1 : ∀ (k : Fin k0_t2_loop.trips), k0_off34 k 1 = 0 := by decide +kernel

/-- One element of `z`. -/
def ZE (g xh mg mgx : EReal) : EReal := (g - mg) - xh * mgx
/-- The greatest `|z|` of 32 chunks, from zero on. -/
def MAXZ (z : Fin 32 → EReal) : EReal := (List.ofFn fun c => max (z c) (-(z c))).foldl max (Ideal.ofBits .f32 0x00000000#32)

theorem pay327_apply (a b u v : Vec Ideal S32x128 .f32) (y : S32x128.Idx) : (k0_pay327 (F := Ideal) a b u v y : EReal) = ZE (u y) (v y) (a y) (b y) := by
  pointwise [k0_pay327, k0_pay326, ZE]
theorem pay326_apply (a b u v : Vec Ideal S32x128 .f32) (y : S32x128.Idx) : (k0_pay326 (F := Ideal) a b u v y : EReal) = ZE (u y) (v y) (a y) (b y) := by
  pointwise [k0_pay326, ZE]

/-- The running maximum over the 32 chunks, as the trip computes it. -/
def maxChain (a b : Vec Ideal S32x128 .f32) (u v : Fin 32 → Vec Ideal S32x128 .f32) : FVec Ideal S32x128 .f32 :=
  shapeCast S32x128 ((List.ofFn fun c => absf (k0_pay326 (F := Ideal) a b (u c) (v c))).foldl maximumf (broadcast S32x128 (Scalar.ofBits .f32 0x00000000#32))) shapeCasts_S32x128_S32x128

theorem foldl_maximumf_apply (y : S32x128.Idx) : ∀ (l : List (FVec Ideal S32x128 .f32)) (z : FVec Ideal S32x128 .f32),
    (l.foldl maximumf z y : EReal) = (l.map fun f => (f y : EReal)).foldl max (z y : EReal)
  | [], _ => rfl
  | f :: l, z => foldl_maximumf_apply y l (maximumf z f)

theorem maxChain_apply (a b : Vec Ideal S32x128 .f32) (u v : Fin 32 → Vec Ideal S32x128 .f32) (y : S32x128.Idx) :
    (maxChain a b u v y : EReal) = MAXZ fun c => ZE (u c y) (v c y) (a y) (b y) := by
  unfold maxChain MAXZ
  pointwise
  rw [foldl_maximumf_apply, List.map_ofFn]
  rfl

/-- One trip of the second loop. -/
theorem trip2 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec Ideal S128x128 .f32) (v32 : Vec Ideal S128x128 .f32)
    (Gf XHf : S256x4096.Idx → EReal) (mg mgx : Fin 256 → EReal)
    (X11 : BufTy.Contents (Elt Ideal) arg11.view.ty) (X14 : BufTy.Contents (Elt Ideal) arg14.view.ty) (X15 : BufTy.Contents (Elt Ideal) arg15.view.ty)
    (h11 : ∀ y, (arg11.view.read (Elt Ideal) X11 y : EReal) = XHf y) (h14 : ∀ y, (arg14.view.read (Elt Ideal) X14 y : EReal) = mg (y 0))
    (h15 : ∀ y, (arg15.view.read (Elt Ideal) X15 y : EReal) = mgx (y 0))
    (k : Fin k0_t2_loop.trips) (E : Set ℕ) (f10 : BufTy.Contents (Elt Ideal) arg10.view.ty) (f16 : BufTy.Contents (Elt Ideal) arg16.view.ty)
    (h10 : ∀ y, 32 * k.val ≤ (y 0).val → (arg10.view.read (Elt Ideal) f10 y : EReal) = Gf y) :
    (iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (arg10.view.loc (c : Thread nD τ) ↦[arg10.view.set]{fullShare} f10) ∗ (arg16.view.loc (c : Thread nD τ) ↦[arg16.view.set]{fullShare} f16)) : sProp 𝕄G)
      ⊢ wp frame (wpE (defs₀ (F := Ideal)) 𝒱 (c : Thread nD τ) bd) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 k PUnit.unit)
          (fun _ => iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (∃ f, (arg10.view.loc (c : Thread nD τ) ↦[arg10.view.set]{fullShare} f) ∗ ⌜∀ y, (arg10.view.read (Elt Ideal) f y : EReal)
            = if 32 * k.val ≤ (y 0).val ∧ (y 0).val < 32 * k.val + 32 then ZE (Gf y) (XHf y) (mg (y 0)) (mgx (y 0)) else arg10.view.read (Elt Ideal) f10 y⌝)
            ∗ (∃ f, (arg16.view.loc (c : Thread nD τ) ↦[arg16.view.set]{fullShare} f) ∗ ⌜∀ y, (arg16.view.read (Elt Ideal) f y : EReal)
            = if 32 * k.val ≤ (y 0).val ∧ (y 0).val < 32 * k.val + 32 then MAXZ (fun c => ZE (Gf (ix2 (y 0) ⟨128 * c.val + (y 1).val, lane_lt c (y 1)⟩)) (XHf (ix2 (y 0) ⟨128 * c.val + (y 1).val, lane_lt c (y 1)⟩)) (mg (y 0)) (mgx (y 0)))
              else arg16.view.read (Elt Ideal) f16 y⌝))) := by
  have hk : k.val < 8 := Nat.lt_of_lt_of_le k.isLt k0_t2_abs.2.1
  unfold k0_t2_body
  iintro ⟨HR11, HR14, HR15, HW10, HW16⟩
  sl_exec
  sl_step
  isplitl [HR11]
  · iexact HR11
  isplitl [HR14]
  · iexact HR14
  isplitl [HR15]
  · iexact HR15
  isplitl [HW10]
  · iexists _
    isplitl
    · iexact HW10
    ipureintro
    intro y
    refine rows_read arg10.view f10 k.val (offs2 k) (offs2_inb k) (offs2_0 k) (offs2_1 k)
      (fun c => k0_pay327 (F := Ideal) (arg14.view.readAt (Elt Ideal) (Rect.unit (s := S256x128) (k0_off34 k) S32x128.size (k0_off34_inb k)).toLoadRect  X14) (arg15.view.readAt (Elt Ideal) (Rect.unit (s := S256x128) (k0_off34 k) S32x128.size (k0_off34_inb k)).toLoadRect  X15)
        (arg10.view.readAt (Elt Ideal) (Rect.unit (s := S256x4096) (offs2 k c) S32x128.size (offs2_inb k c)).toLoadRect  f10) (arg11.view.readAt (Elt Ideal) (Rect.unit (s := S256x4096) (offs2 k c) S32x128.size (offs2_inb k c)).toLoadRect  X11))
      (fun y => ZE (Gf y) (XHf y) (mg (y 0)) (mgx (y 0))) ?_ _ ?_ y
    · intro c z
      rw [pay327_apply]
      have e : k0_off34 k 0 + 1 * (z 0).val = offs2 k c 0 + 1 * (z 0).val := by rw [off34_0, offs2_0]
      have e1 := (h14 ((Rect.unit (s := S256x128) (k0_off34 k) S32x128.size (k0_off34_inb k)).emb z)).trans (congrArg mg (Fin.ext e : _ = (Rect.unit (s := S256x4096) (offs2 k c) S32x128.size (offs2_inb k c)).emb z 0))
      have e2 := (h15 ((Rect.unit (s := S256x128) (k0_off34 k) S32x128.size (k0_off34_inb k)).emb z)).trans (congrArg mgx (Fin.ext e : _ = (Rect.unit (s := S256x4096) (offs2 k c) S32x128.size (offs2_inb k c)).emb z 0))
      have e3 := h10 ((Rect.unit (s := S256x4096) (offs2 k c) S32x128.size (offs2_inb k c)).emb z) (by show 32 * k.val ≤ offs2 k c 0 + 1 * _; rw [offs2_0]; omega)
      have e4 := h11 ((Rect.unit (s := S256x4096) (offs2 k c) S32x128.size (offs2_inb k c)).emb z)
      show ZE (arg10.view.read (Elt Ideal) f10 _) (arg11.view.read (Elt Ideal) X11 _) (arg14.view.read (Elt Ideal) X14 _) (arg15.view.read (Elt Ideal) X15 _) = _
      exact (congr (congr (congrArg₂ ZE e3 e4) e1) e2)
    · rfl
  · iexists _
    isplitl
    · iexact HW16
    ipureintro
    intro y
    refine (congrFun (congrArg (fun w => arg16.view.read (Elt Ideal) (arg16.view.writes (Elt Ideal) f16 [⟨Rect.unit (s := S256x128) (k0_off34 k) S32x128.size (k0_off34_inb k), w⟩]))
      (?_ : _ = maxChain (arg14.view.readAt (Elt Ideal) (Rect.unit (s := S256x128) (k0_off34 k) S32x128.size (k0_off34_inb k)).toLoadRect  X14) (arg15.view.readAt (Elt Ideal) (Rect.unit (s := S256x128) (k0_off34 k) S32x128.size (k0_off34_inb k)).toLoadRect  X15)
        (fun c => (arg10.view.readAt (Elt Ideal) (Rect.unit (s := S256x4096) (offs2 k c) S32x128.size (offs2_inb k c)).toLoadRect  f10)) (fun c => (arg11.view.readAt (Elt Ideal) (Rect.unit (s := S256x4096) (offs2 k c) S32x128.size (offs2_inb k c)).toLoadRect  X11)))) y).trans ?_
    · rfl
    refine rows1_read arg16.view f16 k.val (k0_off34 k) (k0_off34_inb k) (off34_0 k) (off34_1 k) _
      (fun y => MAXZ (fun c => ZE (Gf (ix2 (y 0) ⟨128 * c.val + (y 1).val, lane_lt c (y 1)⟩)) (XHf (ix2 (y 0) ⟨128 * c.val + (y 1).val, lane_lt c (y 1)⟩)) (mg (y 0)) (mgx (y 0)))) ?_ y
    intro z
    refine (maxChain_apply _ _ _ _ z).trans (congrArg MAXZ (funext fun c => ?_))
    have e1 := h14 ((Rect.unit (s := S256x128) (k0_off34 k) S32x128.size (k0_off34_inb k)).emb z)
    have e2 := h15 ((Rect.unit (s := S256x128) (k0_off34 k) S32x128.size (k0_off34_inb k)).emb z)
    have e0 := emb_lane (k0_off34_inb k) (offs2_inb k c) c z ((off34_0 k).trans (offs2_0 k c).symm) (off34_1 k) (offs2_1 k c)
    have e3 := (h10 ((Rect.unit (s := S256x4096) (offs2 k c) S32x128.size (offs2_inb k c)).emb z) (by show 32 * k.val ≤ offs2 k c 0 + 1 * _; rw [offs2_0]; omega)).trans (congrArg Gf e0)
    have e4 := (h11 ((Rect.unit (s := S256x4096) (offs2 k c) S32x128.size (offs2_inb k c)).emb z)).trans (congrArg XHf e0)
    show ZE (arg10.view.read (Elt Ideal) f10 _) (arg11.view.read (Elt Ideal) X11 _) (arg14.view.read (Elt Ideal) X14 _) (arg15.view.read (Elt Ideal) X15 _) = _
    exact (congr (congr (congrArg₂ ZE e3 e4) e1) e2)

end Cert.KernelIdeal.Gen

end
-- ==== Proof.Value.Loop3.lean ====
module

public import proofs.«01_k».proof.Proof.Value.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The third loop: a row group's codes, by clipping and converting `z · s`.
-/
local notation "𝕄G" => MT nD τ sig Unit (Elt Ideal) ℕ (UR sig nD τ) ℕ

/-- The 32 chunk offsets of trip `k`. -/
def offs3 (k : Fin k0_t3_loop.trips) : Fin 32 → Fin 2 → ℕ := ![k0_off68 k, k0_off69 k, k0_off70 k, k0_off71 k, k0_off72 k, k0_off73 k, k0_off74 k, k0_off75 k, k0_off76 k, k0_off77 k, k0_off78 k, k0_off79 k, k0_off80 k, k0_off81 k, k0_off82 k, k0_off83 k, k0_off84 k, k0_off85 k, k0_off86 k, k0_off87 k, k0_off88 k, k0_off89 k, k0_off90 k, k0_off91 k, k0_off92 k, k0_off93 k, k0_off94 k, k0_off95 k, k0_off96 k, k0_off97 k, k0_off98 k, k0_off99 k]
theorem offs3_0 : ∀ (k : Fin k0_t3_loop.trips) (c : Fin 32), offs3 k c 0 = 32 * k.val := by decide +kernel
theorem offs3_1 : ∀ (k : Fin k0_t3_loop.trips) (c : Fin 32), offs3 k c 1 = 128 * c.val := by decide +kernel
theorem offs3_inb : ∀ (k : Fin k0_t3_loop.trips) (c : Fin 32) (a : Fin 2), offs3 k c a + S32x128.size a ≤ S256x4096.size a := by decide +kernel
theorem off67_0 : ∀ (k : Fin k0_t3_loop.trips), k0_off67 k 0 = 32 * k.val := by decide +kernel
theorem off67_1 : ∀ (k : Fin k0_t3_loop.trips), k0_off67 k 1 = 0 := by decide +kernel

/-- One code: the clipped product. -/
def CODE (z s : EReal) : EReal := min (Ideal.ofBits .f32 0x47600000#32) (max (Ideal.ofBits .f32 0xC7600000#32) (z * s))

theorem pay399_apply (s z : Vec Ideal S32x128 .f32) (y : S32x128.Idx) : (k0_pay399 (F := Ideal) s z y : EReal) = CODE (z y) (s y) := by
  pointwise [k0_pay399, CODE]

/-- One trip of the third loop: rows `32k .. 32k+31` of the codes' buffer are the codes of `Z` scaled by `sc`. -/
theorem trip3 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole)
    (Z : S256x4096.Idx → EReal) (sc : Fin 256 → EReal)
    (X10 : BufTy.Contents (Elt Ideal) arg10.view.ty) (X16 : BufTy.Contents (Elt Ideal) arg16.view.ty)
    (h10 : ∀ y, (arg10.view.read (Elt Ideal) X10 y : EReal) = Z y) (h16 : ∀ y, (arg16.view.read (Elt Ideal) X16 y : EReal) = sc (y 0))
    (k : Fin k0_t3_loop.trips) (E : Set ℕ) (f8 : BufTy.Contents (Elt Ideal) arg8.view.ty) :
    (iprop((arg10.view.loc (c : Thread nD τ) ↦[arg10.view.set]{fullShare} X10) ∗ (arg16.view.loc (c : Thread nD τ) ↦[arg16.view.set]{fullShare} X16) ∗ (arg8.view.loc (c : Thread nD τ) ↦[arg8.view.set]{fullShare} f8)) : sProp 𝕄G)
      ⊢ wp frame (wpE (defs₀ (F := Ideal)) 𝒱 (c : Thread nD τ) bd) E (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k PUnit.unit)
          (fun _ => iprop((arg10.view.loc (c : Thread nD τ) ↦[arg10.view.set]{fullShare} X10) ∗ (arg16.view.loc (c : Thread nD τ) ↦[arg16.view.set]{fullShare} X16) ∗ (∃ f, (arg8.view.loc (c : Thread nD τ) ↦[arg8.view.set]{fullShare} f) ∗ ⌜∀ y, (arg8.view.read (Elt Ideal) f y : EReal)
            = if 32 * k.val ≤ (y 0).val ∧ (y 0).val < 32 * k.val + 32 then CODE (Z y) (sc (y 0)) else arg8.view.read (Elt Ideal) f8 y⌝))) := by
  have hk : k.val < 8 := Nat.lt_of_lt_of_le k.isLt k0_t3_abs.2.1
  unfold k0_t3_body
  iintro ⟨HR10, HR16, HW8⟩
  sl_exec
  sl_step
  isplitl [HR10]
  · iexact HR10
  isplitl [HR16]
  · iexact HR16
  iexists _
  isplitl
  · iexact HW8
  ipureintro
  intro y
  refine rows_read arg8.view f8 k.val (offs3 k) (offs3_inb k) (offs3_0 k) (offs3_1 k)
    (fun c => k0_pay399 (F := Ideal) (arg16.view.readAt (Elt Ideal) (Rect.unit (s := S256x128) (k0_off67 k) S32x128.size (k0_off67_inb k)).toLoadRect X16)
      (arg10.view.readAt (Elt Ideal) (Rect.unit (s := S256x4096) (offs3 k c) S32x128.size (offs3_inb k c)).toLoadRect X10))
    (fun y => CODE (Z y) (sc (y 0))) ?_ _ ?_ y
  · intro c z
    rw [pay399_apply]
    refine congrArg₂ CODE (h10 _) ((h16 _).trans (congrArg sc (Fin.ext ?_)))
    show k0_off67 k 0 + 1 * (z 0).val = offs3 k c 0 + 1 * (z 0).val
    rw [off67_0, offs3_0]
  · rfl

end Cert.KernelIdeal.Gen

end
-- ==== Proof.Value.Loops.lean ====
module

public import proofs.«01_k».proof.Proof.Value.Loop1
public import proofs.«01_k».proof.Proof.Value.Loop2
public import proofs.«01_k».proof.Proof.Value.Loop3
public import Idealize.ShloMosaic.Lib.Scf

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The three loops, all their trips done.
-/
local notation "𝕄G" => MT nD τ sig Unit (Elt Ideal) ℕ (UR sig nD τ) ℕ

/-- A row by its number, the number taken modulo the block's 256 rows. -/
def rowN (n : ℕ) : Fin 256 := ⟨n % 256, Nat.mod_lt _ (by norm_num)⟩

/-- One trip's share of the two parameter gradients, at sublane `y 0` and column `y 1`. -/
def DGT (x dy : S256x4096.Idx → EReal) (mu rs : Fin 256 → EReal) (j : ℕ) (y : S8x4096.Idx) : EReal :=
  ∑ q : Fin 4, dy (ix2 (rowN (32 * j + (8 * q.val + (y 0).val))) (y 1)) * XHE x mu rs (ix2 (rowN (32 * j + (8 * q.val + (y 0).val))) (y 1))
def DBT (dy : S256x4096.Idx → EReal) (j : ℕ) (y : S8x4096.Idx) : EReal :=
  ∑ q : Fin 4, dy (ix2 (rowN (32 * j + (8 * q.val + (y 0).val))) (y 1))

/-- The lane sums of `g` and of `g · xhat`, and the lane maxima of `|z|`. -/
def S1E (dy : S256x4096.Idx → EReal) (ga : Fin 4096 → EReal) (y : S256x128.Idx) : EReal :=
  SUMC fun c => GE dy ga (ix2 (y 0) ⟨128 * c.val + (y 1).val, lane_lt c (y 1)⟩)
def S2E (x dy : S256x4096.Idx → EReal) (ga : Fin 4096 → EReal) (mu rs : Fin 256 → EReal) (y : S256x128.Idx) : EReal :=
  SUMC fun c => GE dy ga (ix2 (y 0) ⟨128 * c.val + (y 1).val, lane_lt c (y 1)⟩) * XHE x mu rs (ix2 (y 0) ⟨128 * c.val + (y 1).val, lane_lt c (y 1)⟩)
def MZE (Gf XHf : S256x4096.Idx → EReal) (mg mgx : Fin 256 → EReal) (y : S256x128.Idx) : EReal :=
  MAXZ fun c => ZE (Gf (ix2 (y 0) ⟨128 * c.val + (y 1).val, lane_lt c (y 1)⟩)) (XHf (ix2 (y 0) ⟨128 * c.val + (y 1).val, lane_lt c (y 1)⟩)) (mg (y 0)) (mgx (y 0))

theorem row_eq {k : ℕ} (hk : k < k0_t1_loop.trips) (q : Fin 4) (s : Fin 8) :
    (⟨32 * k + (8 * q.val + s.val), row_lt hk q s⟩ : Fin 256) = rowN (32 * k + (8 * q.val + s.val)) :=
  Fin.ext (Nat.mod_eq_of_lt (row_lt hk q s)).symm

/-- One more group of rows filled. -/
theorem step_rows {P Q R : EReal} {k r : ℕ} (hPQ : ¬ (32 * k ≤ r ∧ r < 32 * k + 32) → r < 32 * (k + 1) → Q = R)
    (h : P = if 32 * k ≤ r ∧ r < 32 * k + 32 then R else Q) (hr : r < 32 * (k + 1)) : P = R := by
  rw [h]; split_ifs with hc
  · rfl
  · exact hPQ hc hr

/-- The first loop. -/
theorem loop1 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec Ideal S128x128 .f32) (v32 : Vec Ideal S128x128 .f32)
    (x dy : S256x4096.Idx → EReal) (ga : Fin 4096 → EReal) (mu rs : Fin 256 → EReal)
    (X1 : BufTy.Contents (Elt Ideal) arg1.view.ty) (X2 : BufTy.Contents (Elt Ideal) arg2.view.ty) (X3 : BufTy.Contents (Elt Ideal) arg3.view.ty) (X12 : BufTy.Contents (Elt Ideal) arg12.view.ty) (X13 : BufTy.Contents (Elt Ideal) arg13.view.ty)
    (h1 : ∀ y, (arg1.view.read (Elt Ideal) X1 y : EReal) = x y) (h2 : ∀ y, (arg2.view.read (Elt Ideal) X2 y : EReal) = dy y)
    (h3 : ∀ y, (arg3.view.read (Elt Ideal) X3 y : EReal) = ga (y 1))
    (h12 : ∀ y, (arg12.view.read (Elt Ideal) X12 y : EReal) = mu (y 0)) (h13 : ∀ y, (arg13.view.read (Elt Ideal) X13 y : EReal) = rs (y 0))
    (E : Set ℕ) (f10 : BufTy.Contents (Elt Ideal) arg10.view.ty) (f11 : BufTy.Contents (Elt Ideal) arg11.view.ty) (f14 : BufTy.Contents (Elt Ideal) arg14.view.ty) (f15 : BufTy.Contents (Elt Ideal) arg15.view.ty) (f17 : BufTy.Contents (Elt Ideal) arg17.view.ty) (f18 : BufTy.Contents (Elt Ideal) arg18.view.ty)
    {β : Type} {kk : PUnit → Prog (TpuEff nD τ sig (Elt Ideal) Λ₀ .tc) β} {Q : β → sProp 𝕄G} :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg17.view.loc (c : Thread nD τ) ↦[arg17.view.set]{fullShare} f17) ∗ (arg18.view.loc (c : Thread nD τ) ↦[arg18.view.set]{fullShare} f18) ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (∃ f, (arg10.view.loc (c : Thread nD τ) ↦[arg10.view.set]{fullShare} f) ∗ ⌜∀ y, (arg10.view.read (Elt Ideal) f y : EReal) = GE dy ga y⌝) ∗ (∃ f, (arg11.view.loc (c : Thread nD τ) ↦[arg11.view.set]{fullShare} f) ∗ ⌜∀ y, (arg11.view.read (Elt Ideal) f y : EReal) = XHE x mu rs y⌝) ∗ (∃ f, (arg14.view.loc (c : Thread nD τ) ↦[arg14.view.set]{fullShare} f) ∗ ⌜∀ y, (arg14.view.read (Elt Ideal) f y : EReal) = S1E dy ga y⌝) ∗ (∃ f, (arg15.view.loc (c : Thread nD τ) ↦[arg15.view.set]{fullShare} f) ∗ ⌜∀ y, (arg15.view.read (Elt Ideal) f y : EReal) = S2E x dy ga mu rs y⌝) ∗ (∃ f, (arg17.view.loc (c : Thread nD τ) ↦[arg17.view.set]{fullShare} f) ∗ ⌜∀ y, (arg17.view.read (Elt Ideal) f y : EReal) = (arg17.view.read (Elt Ideal) f17 y : EReal) + ∑ j ∈ Finset.range 8, DGT x dy mu rs j y⌝) ∗ (∃ f, (arg18.view.loc (c : Thread nD τ) ↦[arg18.view.set]{fullShare} f) ∗ ⌜∀ y, (arg18.view.read (Elt Ideal) f y : EReal) = (arg18.view.read (Elt Ideal) f18 y : EReal) + ∑ j ∈ Finset.range 8, DBT dy j y⌝)) -∗ wp frame (wpE (defs₀ (F := Ideal)) 𝒱 (c : Thread nD τ) bd) E (kk PUnit.unit) Q)) : sProp 𝕄G)
      ⊢ wp frame (wpE (defs₀ (F := Ideal)) 𝒱 (c : Thread nD τ) bd) E (Scf.Loop.for k0_t1_loop k0_t1_ok PUnit.unit (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32) >>= kk) Q := by
  iintro ⟨HR1, HR2, HR3, HR12, HR13, HW10, HW11, HW14, HW15, HW17, HW18, Hk⟩
  iapply (Scf.wp_for_bind (M := 𝕄G) frame (wpE (defs₀ (F := Ideal)) 𝒱 (c : Thread nD τ) bd) E k0_t1_loop.lb k0_t1_loop.ub k0_t1_loop.st k0_t1_ok PUnit.unit (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32)
    (fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (∃ f, (arg10.view.loc (c : Thread nD τ) ↦[arg10.view.set]{fullShare} f) ∗ ⌜∀ y, (y 0).val < 32 * k → (arg10.view.read (Elt Ideal) f y : EReal) = GE dy ga y⌝) ∗ (∃ f, (arg11.view.loc (c : Thread nD τ) ↦[arg11.view.set]{fullShare} f) ∗ ⌜∀ y, (y 0).val < 32 * k → (arg11.view.read (Elt Ideal) f y : EReal) = XHE x mu rs y⌝) ∗ (∃ f, (arg14.view.loc (c : Thread nD τ) ↦[arg14.view.set]{fullShare} f) ∗ ⌜∀ y, (y 0).val < 32 * k → (arg14.view.read (Elt Ideal) f y : EReal) = S1E dy ga y⌝) ∗ (∃ f, (arg15.view.loc (c : Thread nD τ) ↦[arg15.view.set]{fullShare} f) ∗ ⌜∀ y, (y 0).val < 32 * k → (arg15.view.read (Elt Ideal) f y : EReal) = S2E x dy ga mu rs y⌝) ∗ (∃ f, (arg17.view.loc (c : Thread nD τ) ↦[arg17.view.set]{fullShare} f) ∗ ⌜∀ y, (arg17.view.read (Elt Ideal) f y : EReal) = (arg17.view.read (Elt Ideal) f17 y : EReal) + ∑ j ∈ Finset.range k, DGT x dy mu rs j y⌝) ∗ (∃ f, (arg18.view.loc (c : Thread nD τ) ↦[arg18.view.set]{fullShare} f) ∗ ⌜∀ y, (arg18.view.read (Elt Ideal) f y : EReal) = (arg18.view.read (Elt Ideal) f18 y : EReal) + ∑ j ∈ Finset.range k, DBT dy j y⌝))) (fun k acc => ?step)) $$ [HR1 HR2 HR3 HR12 HR13 HW10 HW11 HW14 HW15 HW17 HW18]
  case step =>
    have hk : k.val < 8 := Nat.lt_of_lt_of_le k.isLt k0_t1_abs.2.1
    iintro ⟨HR1, HR2, HR3, HR12, HR13, ⟨%g10, HW10, %hg10⟩, ⟨%g11, HW11, %hg11⟩, ⟨%g14, HW14, %hg14⟩, ⟨%g15, HW15, %hg15⟩, ⟨%g17, HW17, %hg17⟩, ⟨%g18, HW18, %hg18⟩⟩
    iapply (wp_wand_r frame (wpE (defs₀ (F := Ideal)) 𝒱 (c : Thread nD τ) bd) E)
    isplitl
    · iapply (trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 x dy ga mu rs X1 X2 X3 X12 X13 h1 h2 h3 h12 h13 k E g10 g11 g14 g15 g17 g18)
      sl_close
    · iintro %a
      iintro ⟨HR1, HR2, HR3, HR12, HR13, ⟨%e10, HW10, %he10⟩, ⟨%e11, HW11, %he11⟩, ⟨%e14, HW14, %he14⟩, ⟨%e15, HW15, %he15⟩, ⟨%e17, HW17, %he17⟩, ⟨%e18, HW18, %he18⟩⟩
      isplitl [HR1]
      · iexact HR1
      isplitl [HR2]
      · iexact HR2
      isplitl [HR3]
      · iexact HR3
      isplitl [HR12]
      · iexact HR12
      isplitl [HR13]
      · iexact HR13
      isplitl [HW10]
      · iexists e10
        isplitl
        · iexact HW10
        ipureintro
        exact fun y hy => step_rows (fun h1 h2 => hg10 y (by omega)) (he10 y) hy
      isplitl [HW11]
      · iexists e11
        isplitl
        · iexact HW11
        ipureintro
        exact fun y hy => step_rows (fun h1 h2 => hg11 y (by omega)) (he11 y) hy
      isplitl [HW14]
      · iexists e14
        isplitl
        · iexact HW14
        ipureintro
        exact fun y hy => step_rows (fun h1 h2 => hg14 y (by omega)) (he14 y) hy
      isplitl [HW15]
      · iexists e15
        isplitl
        · iexact HW15
        ipureintro
        exact fun y hy => step_rows (fun h1 h2 => hg15 y (by omega)) (he15 y) hy
      isplitl [HW17]
      · iexists e17
        isplitl
        · iexact HW17
        ipureintro
        intro y
        rw [he17 y, hg17 y, Finset.sum_range_succ, ← add_assoc]
        refine congrArg _ (Finset.sum_congr rfl fun q _ => ?_)
        exact congrArg (fun r => dy (ix2 r (y 1)) * XHE x mu rs (ix2 r (y 1))) (row_eq k.isLt q (y 0))
      iexists e18
      isplitl
      · iexact HW18
      ipureintro
      intro y
      rw [he18 y, hg18 y, Finset.sum_range_succ, ← add_assoc]
      refine congrArg _ (Finset.sum_congr rfl fun q _ => ?_)
      exact congrArg (fun r => dy (ix2 r (y 1))) (row_eq k.isLt q (y 0))
  · isplitl [HR1]
    · iexact HR1
    isplitl [HR2]
    · iexact HR2
    isplitl [HR3]
    · iexact HR3
    isplitl [HR12]
    · iexact HR12
    isplitl [HR13]
    · iexact HR13
    isplitl [HW10]
    · iexists f10
      isplitl
      · iexact HW10
      ipureintro
      exact fun y hy => absurd hy (by omega)
    isplitl [HW11]
    · iexists f11
      isplitl
      · iexact HW11
      ipureintro
      exact fun y hy => absurd hy (by omega)
    isplitl [HW14]
    · iexists f14
      isplitl
      · iexact HW14
      ipureintro
      exact fun y hy => absurd hy (by omega)
    isplitl [HW15]
    · iexists f15
      isplitl
      · iexact HW15
      ipureintro
      exact fun y hy => absurd hy (by omega)
    isplitl [HW17]
    · iexists f17
      isplitl
      · iexact HW17
      ipureintro
      intro y; rw [Finset.sum_range_zero, add_zero]
    iexists f18
    isplitl
    · iexact HW18
    ipureintro
    intro y; rw [Finset.sum_range_zero, add_zero]
  iintro %acc HI
  icases HI with ⟨HR1, HR2, HR3, HR12, HR13, ⟨%g10, HW10, %hg10⟩, ⟨%g11, HW11, %hg11⟩, ⟨%g14, HW14, %hg14⟩, ⟨%g15, HW15, %hg15⟩, ⟨%g17, HW17, %hg17⟩, ⟨%g18, HW18, %hg18⟩⟩
  iapply Hk
  isplitl [HR1]
  · iexact HR1
  isplitl [HR2]
  · iexact HR2
  isplitl [HR3]
  · iexact HR3
  isplitl [HR12]
  · iexact HR12
  isplitl [HR13]
  · iexact HR13
  isplitl [HW10]
  · iexists g10
    isplitl
    · iexact HW10
    ipureintro
    intro y
    have h := (y 0).isLt
    change (y 0).val < 256 at h
    have h8 : Scf.trips k0_t1_loop.lb k0_t1_loop.ub k0_t1_loop.st = 8 := by decide +kernel
    exact hg10 y (by rw [h8]; omega)
  isplitl [HW11]
  · iexists g11
    isplitl
    · iexact HW11
    ipureintro
    intro y
    have h := (y 0).isLt
    change (y 0).val < 256 at h
    have h8 : Scf.trips k0_t1_loop.lb k0_t1_loop.ub k0_t1_loop.st = 8 := by decide +kernel
    exact hg11 y (by rw [h8]; omega)
  isplitl [HW14]
  · iexists g14
    isplitl
    · iexact HW14
    ipureintro
    intro y
    have h := (y 0).isLt
    change (y 0).val < 256 at h
    have h8 : Scf.trips k0_t1_loop.lb k0_t1_loop.ub k0_t1_loop.st = 8 := by decide +kernel
    exact hg14 y (by rw [h8]; omega)
  isplitl [HW15]
  · iexists g15
    isplitl
    · iexact HW15
    ipureintro
    intro y
    have h := (y 0).isLt
    change (y 0).val < 256 at h
    have h8 : Scf.trips k0_t1_loop.lb k0_t1_loop.ub k0_t1_loop.st = 8 := by decide +kernel
    exact hg15 y (by rw [h8]; omega)
  isplitl [HW17]
  · iexists g17
    isplitl
    · iexact HW17
    ipureintro
    have h8 : Scf.trips k0_t1_loop.lb k0_t1_loop.ub k0_t1_loop.st = 8 := by decide +kernel
    intro y
    rw [hg17 y, h8]
  iexists g18
  isplitl
  · iexact HW18
  ipureintro
  have h8 : Scf.trips k0_t1_loop.lb k0_t1_loop.ub k0_t1_loop.st = 8 := by decide +kernel
  intro y
  rw [hg18 y, h8]

/-- The second loop. -/
theorem loop2 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (v31 : FVec Ideal S128x128 .f32) (v32 : Vec Ideal S128x128 .f32)
    (Gf XHf : S256x4096.Idx → EReal) (mg mgx : Fin 256 → EReal)
    (X11 : BufTy.Contents (Elt Ideal) arg11.view.ty) (X14 : BufTy.Contents (Elt Ideal) arg14.view.ty) (X15 : BufTy.Contents (Elt Ideal) arg15.view.ty)
    (h11 : ∀ y, (arg11.view.read (Elt Ideal) X11 y : EReal) = XHf y) (h14 : ∀ y, (arg14.view.read (Elt Ideal) X14 y : EReal) = mg (y 0))
    (h15 : ∀ y, (arg15.view.read (Elt Ideal) X15 y : EReal) = mgx (y 0))
    (E : Set ℕ) (f10 : BufTy.Contents (Elt Ideal) arg10.view.ty) (f16 : BufTy.Contents (Elt Ideal) arg16.view.ty)
    (h10 : ∀ y, (arg10.view.read (Elt Ideal) f10 y : EReal) = Gf y)
    {β : Type} {kk : PUnit → Prog (TpuEff nD τ sig (Elt Ideal) Λ₀ .tc) β} {Q : β → sProp 𝕄G} :
    (iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (arg10.view.loc (c : Thread nD τ) ↦[arg10.view.set]{fullShare} f10) ∗ (arg16.view.loc (c : Thread nD τ) ↦[arg16.view.set]{fullShare} f16) ∗ (((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (∃ f, (arg10.view.loc (c : Thread nD τ) ↦[arg10.view.set]{fullShare} f) ∗ ⌜∀ y, (arg10.view.read (Elt Ideal) f y : EReal) = ZE (Gf y) (XHf y) (mg (y 0)) (mgx (y 0))⌝) ∗ (∃ f, (arg16.view.loc (c : Thread nD τ) ↦[arg16.view.set]{fullShare} f) ∗ ⌜∀ y, (arg16.view.read (Elt Ideal) f y : EReal) = MZE Gf XHf mg mgx y⌝)) -∗ wp frame (wpE (defs₀ (F := Ideal)) 𝒱 (c : Thread nD τ) bd) E (kk PUnit.unit) Q)) : sProp 𝕄G)
      ⊢ wp frame (wpE (defs₀ (F := Ideal)) 𝒱 (c : Thread nD τ) bd) E (Scf.Loop.for k0_t2_loop k0_t2_ok PUnit.unit (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32) >>= kk) Q := by
  iintro ⟨HR11, HR14, HR15, HW10, HW16, Hk⟩
  iapply (Scf.wp_for_bind (M := 𝕄G) frame (wpE (defs₀ (F := Ideal)) 𝒱 (c : Thread nD τ) bd) E k0_t2_loop.lb k0_t2_loop.ub k0_t2_loop.st k0_t2_ok PUnit.unit (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32)
    (fun k _ => iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15) ∗ (∃ f, (arg10.view.loc (c : Thread nD τ) ↦[arg10.view.set]{fullShare} f) ∗ ⌜∀ y, (arg10.view.read (Elt Ideal) f y : EReal) = if (y 0).val < 32 * k then ZE (Gf y) (XHf y) (mg (y 0)) (mgx (y 0)) else Gf y⌝) ∗ (∃ f, (arg16.view.loc (c : Thread nD τ) ↦[arg16.view.set]{fullShare} f) ∗ ⌜∀ y, (y 0).val < 32 * k → (arg16.view.read (Elt Ideal) f y : EReal) = MZE Gf XHf mg mgx y⌝))) (fun k acc => ?step)) $$ [HR11 HR14 HR15 HW10 HW16]
  case step =>
    have hk : k.val < 8 := Nat.lt_of_lt_of_le k.isLt k0_t2_abs.2.1
    iintro ⟨HR11, HR14, HR15, ⟨%g10, HW10, %hg10⟩, ⟨%g16, HW16, %hg16⟩⟩
    iapply (wp_wand_r frame (wpE (defs₀ (F := Ideal)) 𝒱 (c : Thread nD τ) bd) E)
    isplitl
    · iapply (trip2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 Gf XHf mg mgx X11 X14 X15 h11 h14 h15 k E g10 g16 (fun y hy => (hg10 y).trans (if_neg (by omega))))
      sl_close
    · iintro %a
      iintro ⟨HR11, HR14, HR15, ⟨%e10, HW10, %he10⟩, ⟨%e16, HW16, %he16⟩⟩
      isplitl [HR11]
      · iexact HR11
      isplitl [HR14]
      · iexact HR14
      isplitl [HR15]
      · iexact HR15
      isplitl [HW10]
      · iexists e10
        isplitl
        · iexact HW10
        ipureintro
        intro y
        rw [he10 y, hg10 y]
        split_ifs <;> first | rfl | omega
      iexists e16
      isplitl
      · iexact HW16
      ipureintro
      exact fun y hy => step_rows (fun h1 h2 => hg16 y (by omega)) (he16 y) hy
  · isplitl [HR11]
    · iexact HR11
    isplitl [HR14]
    · iexact HR14
    isplitl [HR15]
    · iexact HR15
    isplitl [HW10]
    · iexists f10
      isplitl
      · iexact HW10
      ipureintro
      intro y; rw [if_neg (by omega)]; exact h10 y
    iexists f16
    isplitl
    · iexact HW16
    ipureintro
    exact fun y hy => absurd hy (by omega)
  iintro %acc HI
  icases HI with ⟨HR11, HR14, HR15, ⟨%g10, HW10, %hg10⟩, ⟨%g16, HW16, %hg16⟩⟩
  iapply Hk
  isplitl [HR11]
  · iexact HR11
  isplitl [HR14]
  · iexact HR14
  isplitl [HR15]
  · iexact HR15
  isplitl [HW10]
  · iexists g10
    isplitl
    · iexact HW10
    ipureintro
    intro y
    have h := (y 0).isLt
    change (y 0).val < 256 at h
    have h8 : Scf.trips k0_t2_loop.lb k0_t2_loop.ub k0_t2_loop.st = 8 := by decide +kernel
    rw [hg10 y, h8, if_pos (by omega)]
  iexists g16
  isplitl
  · iexact HW16
  ipureintro
  intro y
  have h := (y 0).isLt
  change (y 0).val < 256 at h
  have h8 : Scf.trips k0_t2_loop.lb k0_t2_loop.ub k0_t2_loop.st = 8 := by decide +kernel
  exact hg16 y (by rw [h8]; omega)

/-- The third loop. -/
theorem loop3 (𝒱 : Variants) (c : Dev nD) (bd : Option 𝒱.V) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole)
    (Z : S256x4096.Idx → EReal) (sc : Fin 256 → EReal)
    (X10 : BufTy.Contents (Elt Ideal) arg10.view.ty) (X16 : BufTy.Contents (Elt Ideal) arg16.view.ty)
    (h10 : ∀ y, (arg10.view.read (Elt Ideal) X10 y : EReal) = Z y) (h16 : ∀ y, (arg16.view.read (Elt Ideal) X16 y : EReal) = sc (y 0))
    (E : Set ℕ) (f8 : BufTy.Contents (Elt Ideal) arg8.view.ty)
    {β : Type} {kk : PUnit → Prog (TpuEff nD τ sig (Elt Ideal) Λ₀ .tc) β} {Q : β → sProp 𝕄G} :
    (iprop((arg10.view.loc (c : Thread nD τ) ↦[arg10.view.set]{fullShare} X10) ∗ (arg16.view.loc (c : Thread nD τ) ↦[arg16.view.set]{fullShare} X16) ∗ (arg8.view.loc (c : Thread nD τ) ↦[arg8.view.set]{fullShare} f8) ∗ (((arg10.view.loc (c : Thread nD τ) ↦[arg10.view.set]{fullShare} X10) ∗ (arg16.view.loc (c : Thread nD τ) ↦[arg16.view.set]{fullShare} X16) ∗ (∃ f, (arg8.view.loc (c : Thread nD τ) ↦[arg8.view.set]{fullShare} f) ∗ ⌜∀ y, (arg8.view.read (Elt Ideal) f y : EReal) = CODE (Z y) (sc (y 0))⌝)) -∗ wp frame (wpE (defs₀ (F := Ideal)) 𝒱 (c : Thread nD τ) bd) E (kk PUnit.unit) Q)) : sProp 𝕄G)
      ⊢ wp frame (wpE (defs₀ (F := Ideal)) 𝒱 (c : Thread nD τ) bd) E (Scf.Loop.for k0_t3_loop k0_t3_ok PUnit.unit (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) >>= kk) Q := by
  iintro ⟨HR10, HR16, HW8, Hk⟩
  iapply (Scf.wp_for_bind (M := 𝕄G) frame (wpE (defs₀ (F := Ideal)) 𝒱 (c : Thread nD τ) bd) E k0_t3_loop.lb k0_t3_loop.ub k0_t3_loop.st k0_t3_ok PUnit.unit (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
    (fun k _ => iprop((arg10.view.loc (c : Thread nD τ) ↦[arg10.view.set]{fullShare} X10) ∗ (arg16.view.loc (c : Thread nD τ) ↦[arg16.view.set]{fullShare} X16) ∗ (∃ f, (arg8.view.loc (c : Thread nD τ) ↦[arg8.view.set]{fullShare} f) ∗ ⌜∀ y, (y 0).val < 32 * k → (arg8.view.read (Elt Ideal) f y : EReal) = CODE (Z y) (sc (y 0))⌝))) (fun k acc => ?step)) $$ [HR10 HR16 HW8]
  case step =>
    have hk : k.val < 8 := Nat.lt_of_lt_of_le k.isLt k0_t3_abs.2.1
    iintro ⟨HR10, HR16, ⟨%g8, HW8, %hg8⟩⟩
    iapply (wp_wand_r frame (wpE (defs₀ (F := Ideal)) 𝒱 (c : Thread nD τ) bd) E)
    isplitl
    · iapply (trip3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 Z sc X10 X16 h10 h16 k E g8)
      sl_close
    · iintro %a
      iintro ⟨HR10, HR16, ⟨%e8, HW8, %he8⟩⟩
      isplitl [HR10]
      · iexact HR10
      isplitl [HR16]
      · iexact HR16
      iexists e8
      isplitl
      · iexact HW8
      ipureintro
      exact fun y hy => step_rows (fun h1 h2 => hg8 y (by omega)) (he8 y) hy
  · isplitl [HR10]
    · iexact HR10
    isplitl [HR16]
    · iexact HR16
    iexists f8
    isplitl
    · iexact HW8
    ipureintro
    exact fun y hy => absurd hy (by omega)
  iintro %acc HI
  icases HI with ⟨HR10, HR16, ⟨%g8, HW8, %hg8⟩⟩
  iapply Hk
  isplitl [HR10]
  · iexact HR10
  isplitl [HR16]
  · iexact HR16
  iexists g8
  isplitl
  · iexact HW8
  ipureintro
  intro y
  have h := (y 0).isLt
  change (y 0).val < 256 at h
  have h8 : Scf.trips k0_t3_loop.lb k0_t3_loop.ub k0_t3_loop.st = 8 := by decide +kernel
  exact hg8 y (by rw [h8]; omega)

end Cert.KernelIdeal.Gen

end
-- ==== Proof.Value.Pay.lean ====
module

public import proofs.«01_k».proof.Proof.Value.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  What the kernel stores between its loops, at an index.
-/

/-- A lane-wise statistic's row: block row `r` lies at `(0, r / 128, r % 128)`. -/
def ROWOF (v : Vec Ideal S1x2x128 .f32) (r : Fin 256) : EReal := v (ix3 0 ⟨r.val / 128, by omega⟩ ⟨r.val % 128, Nat.mod_lt _ (by norm_num)⟩)

theorem pay438_apply (y : S8x4096.Idx) : (k0_pay438 (F := Ideal) y : EReal) = 0 := by
  pointwise [k0_pay438]
theorem pay439_apply (y : S8x4096.Idx) : (k0_pay439 (F := Ideal) y : EReal) = 0 := by
  pointwise [k0_pay439]
theorem pay440_apply (v : Vec Ideal S1x1x128 .f32) (y : S128x128.Idx) : (k0_pay440 (F := Ideal) v y : EReal) = v (ix3 0 0 (y 0)) := by
  pointwise [k0_pay440]
theorem pay441_apply (v : Vec Ideal S1x1x128 .f32) (y : S128x128.Idx) : (k0_pay441 (F := Ideal) v y : EReal) = v (ix3 0 0 (y 0)) := by
  pointwise [k0_pay441]
theorem pay442_apply (v : Vec Ideal S1x1x128 .f32) (y : S128x128.Idx) : (k0_pay442 (F := Ideal) v y : EReal) = v (ix3 0 0 (y 0)) := by
  pointwise [k0_pay442]
theorem pay444_apply (v : Vec Ideal S1x1x128 .f32) (y : S128x128.Idx) : (k0_pay444 (F := Ideal) (k0_pay443 v) y : EReal) = v (ix3 0 0 (y 0)) := by
  pointwise [k0_pay444, k0_pay443]
/-- The mean over the row's 4096 columns, from the lane sums. -/
def MEANR (v : S256x128.Idx → EReal) (r : Fin 256) : EReal := (∑ l : Fin 128, v (ix2 r l)) * Ideal.ofBits .f32 0x39800000#32
theorem pay446_apply (v : Vec Ideal S256x128 .f32) (y : S256x128.Idx) : (k0_pay446 (F := Ideal) v y : EReal) = MEANR v (y 0) := by
  pointwise [k0_pay446, MEANR]
theorem pay447_apply (v : Vec Ideal S256x128 .f32) (y : S256x128.Idx) : (k0_pay447 (F := Ideal) v y : EReal) = MEANR v (y 0) := by
  pointwise [k0_pay447, MEANR]
theorem pay3_apply (v : Vec Ideal S8x4096 .f32) (y : S1x4096.Idx) : (k0_pay3 (F := Ideal) v y : EReal) = ∑ s : Fin 8, v (ix2 s (y 1)) := by
  pointwise [k0_pay3]
theorem pay4_apply (v : Vec Ideal S8x4096 .f32) (y : S1x4096.Idx) : (k0_pay4 (F := Ideal) v y : EReal) = ∑ s : Fin 8, v (ix2 s (y 1)) := by
  pointwise [k0_pay4]

/-- The value whose power of two is the scale, from `|r|` and the lane maxima. -/
def VAL (r : EReal) (m : S256x128.Idx → EReal) (row : Fin 256) : EReal :=
  max r (-r) * (Finset.univ.fold max (Ideal.ofBits .f32 0xFF800000#32) fun l : Fin 128 => m (ix2 row l)) * Ideal.ofBits .f32 0x37924925#32
theorem pay454_apply (v57 v59 : Vec Ideal S256x128 .f32) (y : S256x128.Idx) :
    (k0_pay454 (F := Ideal) (k0_pay452 v57) (k0_pay453 v59) y : EReal) = VAL (v57 y) v59 (y 0) := by
  pointwise [k0_pay454, k0_pay452, k0_pay453, VAL]
  rfl

/-- One step of the search for the exponent field: set bit `b` unless the value lies below. -/
def STEP (v : EReal) (b t : BitVec 32) : BitVec 32 :=
  if v < Ideal.ofBits .f32 ((t ||| b) <<< 23) then t else t ||| b
/-- The exponent field of `v`, by binary search. -/
def FIELD (v : EReal) : BitVec 32 :=
  [128#32, 64#32, 32#32, 16#32, 8#32, 4#32, 2#32, 1#32].foldl (fun t b => STEP v b t) 0#32
/-- The exponent, zero for a zero value. -/
def EXPO (v : EReal) : BitVec 32 := if v = 0 then 0#32 else FIELD v - 126#32
/-- `2 ^ e` from its bits, and `2 ^ (-e)`. -/
def SCL (v : EReal) : EReal := Ideal.ofBits .f32 ((EXPO v + 127#32) <<< 23)
def INV (v : EReal) : EReal := Ideal.ofBits .f32 ((0#32 - EXPO v + 127#32) <<< 23)

/-- One step of the search on a whole vector. -/
def STEPV (v : FVec Ideal S256x128 .f32) (b : BitVec 32) (t : IVec S256x128 32) : IVec S256x128 32 :=
  select (cmpf .olt v (bitcastToFloat .f32 (shli (ori t (broadcast S256x128 b)) (broadcast S256x128 23#32)))) t (ori t (broadcast S256x128 b))
theorem stepv_apply (v : FVec Ideal S256x128 .f32) (b : BitVec 32) (t : IVec S256x128 32) (y : S256x128.Idx) :
    STEPV v b t y = STEP (v y) b (t y) := by
  pointwise [STEPV, STEP]
  rfl
theorem pay455_eq (v58 v62 : FVec Ideal S256x128 .f32) : k0_pay455 (F := Ideal) v58 v62 =
    STEPV (k0_pay454 v58 v62) 4#32 (STEPV (k0_pay454 v58 v62) 8#32 (STEPV (k0_pay454 v58 v62) 16#32 (STEPV (k0_pay454 v58 v62) 32#32 (STEPV (k0_pay454 v58 v62) 64#32 (STEPV (k0_pay454 v58 v62) 128#32 (broadcast S256x128 0#32)))))) := rfl
theorem pay456_eq (v65 : FVec Ideal S256x128 .f32) (t : IVec S256x128 32) : k0_pay456 (F := Ideal) v65 t =
    select (cmpf .oeq v65 (broadcast S256x128 (Scalar.ofBits .f32 0x00000000#32))) (broadcast S256x128 0#32)
      (subi (STEPV v65 1#32 (STEPV v65 2#32 t)) (broadcast S256x128 126#32)) := rfl

/-- The printed exponent is `EXPO` of the value. -/
theorem pay456_apply (v58 v62 : FVec Ideal S256x128 .f32) (y : S256x128.Idx) :
    k0_pay456 (F := Ideal) (k0_pay454 v58 v62) (k0_pay455 v58 v62) y = EXPO (k0_pay454 (F := Ideal) v58 v62 y) := by
  rw [pay456_eq, pay455_eq]
  generalize (k0_pay454 (F := Ideal) v58 v62) = v
  pointwise [EXPO, FIELD, stepv_apply, List.foldl]
  rfl
theorem pay457_apply (v58 v62 : FVec Ideal S256x128 .f32) (y : S256x128.Idx) :
    (k0_pay457 (F := Ideal) (k0_pay454 v58 v62) (k0_pay455 v58 v62) y : EReal) = SCL (k0_pay454 (F := Ideal) v58 v62 y) := by
  unfold k0_pay457 SCL
  rw [← pay456_apply]
  generalize k0_pay456 (F := Ideal) (k0_pay454 v58 v62) (k0_pay455 v58 v62) = v
  pointwise []
  rfl
theorem pay458_apply (v57 : Vec Ideal S256x128 .f32) (v58 v62 : FVec Ideal S256x128 .f32) (y : S256x128.Idx) :
    (k0_pay458 (F := Ideal) v57 (k0_pay454 v58 v62) (k0_pay455 v58 v62) y : EReal) = v57 y * INV (k0_pay454 (F := Ideal) v58 v62 y) := by
  unfold k0_pay458 INV
  rw [← pay456_apply]
  generalize k0_pay456 (F := Ideal) (k0_pay454 v58 v62) (k0_pay455 v58 v62) = v
  pointwise []
  rfl
theorem pay459_apply (v58 v62 : FVec Ideal S256x128 .f32) (y : S1x1x128.Idx) :
    (k0_pay459 (F := Ideal) (k0_pay454 v58 v62) (k0_pay455 v58 v62) y : EReal)
      = k0_pay457 (F := Ideal) (k0_pay454 v58 v62) (k0_pay455 v58 v62) (ix2 ⟨(y 2).val, by have h := (y 2).isLt; change (y 2).val < 128 at h; omega⟩ 0) := by
  unfold k0_pay459
  generalize k0_pay457 (F := Ideal) (k0_pay454 v58 v62) (k0_pay455 v58 v62) = v
  pointwise []
theorem pay1_apply (v : FVec Ideal S256x128 .f32) (y : S1x1x128.Idx) :
    (k0_pay1 (F := Ideal) v y : EReal) = v (ix2 ⟨128 + (y 2).val, by have h := (y 2).isLt; change (y 2).val < 128 at h; omega⟩ 0) := by
  pointwise [k0_pay1]

end Cert.KernelIdeal.Gen

end
-- ==== Proof.Value.Defs.lean ====
module

public import proofs.«01_k».proof.Proof.Value.Pay
public import proofs.«01_k».proof.Proof.Value.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  What the kernel's body computes at one grid point, as functions of the point's blocks.
-/
/-- The condition of the zero fill, from the grid coordinates. -/
abbrev vFirst (i : grid0.Coords) : Prop := (Scalar.cmpi .ne (Scalar.extui (Scalar.cmpi .eq (BitVec.ofNat 32 (i 0).val) 0#32)) 0#32) = 1#1
/-- The condition of the last store, from the grid coordinates. -/
abbrev vLast (i : grid0.Coords) : Prop := k0_cond2 i = 1#1

/-- A block's `g`, `xhat`, the two row means, `z`, the lane maxima, the scaled greatest value, the factor of the codes. -/
def GAM (x3 : S1x4096.Idx → EReal) (col : Fin 4096) : EReal := x3 (ix2 0 col)
def BG (x2 : S256x4096.Idx → EReal) (x3 : S1x4096.Idx → EReal) : S256x4096.Idx → EReal := GE x2 (GAM x3)
def BX (x1 : S256x4096.Idx → EReal) (x4 x5 : S1x2x128.Idx → EReal) : S256x4096.Idx → EReal := XHE x1 (ROWOF x4) (ROWOF x5)
def BMG (x2 : S256x4096.Idx → EReal) (x3 : S1x4096.Idx → EReal) (r : Fin 256) : EReal := MEANR (S1E x2 (GAM x3)) r
def BMGX (x1 x2 : S256x4096.Idx → EReal) (x3 : S1x4096.Idx → EReal) (x4 x5 : S1x2x128.Idx → EReal) (r : Fin 256) : EReal := MEANR (S2E x1 x2 (GAM x3) (ROWOF x4) (ROWOF x5)) r
def BZ (x1 x2 : S256x4096.Idx → EReal) (x3 : S1x4096.Idx → EReal) (x4 x5 : S1x2x128.Idx → EReal) (y : S256x4096.Idx) : EReal := ZE (BG x2 x3 y) (BX x1 x4 x5 y) (BMG x2 x3 (y 0)) (BMGX x1 x2 x3 x4 x5 (y 0))
def BM (x1 x2 : S256x4096.Idx → EReal) (x3 : S1x4096.Idx → EReal) (x4 x5 : S1x2x128.Idx → EReal) (y : S256x128.Idx) : EReal := MZE (BG x2 x3) (BX x1 x4 x5) (BMG x2 x3) (BMGX x1 x2 x3 x4 x5) y
def BV (x1 x2 : S256x4096.Idx → EReal) (x3 : S1x4096.Idx → EReal) (x4 x5 : S1x2x128.Idx → EReal) (r : Fin 256) : EReal := VAL (ROWOF x5 r) (BM x1 x2 x3 x4 x5) r
def BSC (x1 x2 : S256x4096.Idx → EReal) (x3 : S1x4096.Idx → EReal) (x4 x5 : S1x2x128.Idx → EReal) (r : Fin 256) : EReal := ROWOF x5 r * INV (BV x1 x2 x3 x4 x5 r)
/-- A row's `r`, along the row. -/
def VR (x5 : S1x2x128.Idx → EReal) (y : S256x128.Idx) : EReal := ROWOF x5 (y 0)
/-- The codes and the scales of a block. -/
def OUT8 (x1 x2 : S256x4096.Idx → EReal) (x3 : S1x4096.Idx → EReal) (x4 x5 : S1x2x128.Idx → EReal) (y : S256x4096.Idx) : EReal := CODE (BZ x1 x2 x3 x4 x5 y) (BSC x1 x2 x3 x4 x5 (y 0))
def OUT9 (x1 x2 : S256x4096.Idx → EReal) (x3 : S1x4096.Idx → EReal) (x4 x5 : S1x2x128.Idx → EReal) (y : S1x2x128.Idx) : EReal := SCL (BV x1 x2 x3 x4 x5 ⟨128 * (y 1).val + (y 2).val, by
  have h := (y 2).isLt; change (y 2).val < 128 at h; have h1 := (y 1).isLt; change (y 1).val < 2 at h1; omega⟩)
/-- The accumulators after a block. -/
def OUT17 (i : grid0.Coords) (x1 x2 : S256x4096.Idx → EReal) (x4 x5 : S1x2x128.Idx → EReal) (d : S8x4096.Idx → EReal) (y : S8x4096.Idx) : EReal :=
  (if vFirst i then 0 else d y) + ∑ j ∈ Finset.range 8, DGT x1 x2 (ROWOF x4) (ROWOF x5) j y
def OUT18 (i : grid0.Coords) (x2 : S256x4096.Idx → EReal) (d : S8x4096.Idx → EReal) (y : S8x4096.Idx) : EReal :=
  (if vFirst i then 0 else d y) + ∑ j ∈ Finset.range 8, DBT x2 j y
/-- The eight sublanes of an accumulator summed. -/
def SUM8 (d : S8x4096.Idx → EReal) (y : S1x4096.Idx) : EReal := ∑ s : Fin 8, d (ix2 s (y 1))

end Cert.KernelIdeal.Gen

end
-- ==== Proof.Value.Body.lean ====
module

public import proofs.«01_k».proof.Proof.Value.Defs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The kernel's body at one grid point: what each buffer it writes holds at its end.
-/
local notation "𝕄G" => MT nD τ sig Unit (Elt Ideal) ℕ (UR sig nD τ) ℕ

/-- The two halves of a [256, 128] buffer, stored one after the other. -/
theorem halves_read {κ : Kind} {sp : Space} {e : EltTy} (v : View sig κ sp S256x128 e) (f : v.ty.Contents (Elt Ideal))
    (w0 w1 : S128x128.Idx → Elt Ideal e) (G : S256x128.Idx → Elt Ideal e)
    (h0 : ∀ z, w0 z = G ((Rect.unit (s := S256x128) ![0, 0] S128x128.size inb_S256x128_S128x128_0_0).emb z))
    (h1 : ∀ z, w1 z = G ((Rect.unit (s := S256x128) ![128, 0] S128x128.size inb_S256x128_S128x128_128_0).emb z)) (y : S256x128.Idx) :
    v.read (Elt Ideal) (v.writes (Elt Ideal) f [⟨Rect.unit (s := S256x128) ![128, 0] S128x128.size inb_S256x128_S128x128_128_0, w1⟩, ⟨Rect.unit (s := S256x128) ![0, 0] S128x128.size inb_S256x128_S128x128_0_0, w0⟩]) y = G y := by
  have hy0 : (y 0).val < 256 := (y 0).isLt
  have hy1 : (y 1).val < 128 := (y 1).isLt
  refine View.read_writes_apply_of_pieces v f G _ ?_ y ?_
  · intro p hp x
    rcases List.mem_pair.mp hp with rfl | rfl
    · exact h1 x
    · exact h0 x
  · by_cases h : (y 0).val < 128
    · refine ⟨_, List.mem_pair.mpr (.inr rfl), (Rect.mem_set_unit (inb := inb_S256x128_S128x128_0_0)).mpr fun a => ?_⟩
      match a with
      | ⟨0, _⟩ => show 0 ≤ (y 0).val ∧ (y 0).val < 0 + 128; omega
      | ⟨1, _⟩ => show 0 ≤ (y 1).val ∧ (y 1).val < 0 + 128; omega
    · refine ⟨_, List.mem_pair.mpr (.inl rfl), (Rect.mem_set_unit (inb := inb_S256x128_S128x128_128_0)).mpr fun a => ?_⟩
      match a with
      | ⟨0, _⟩ => show 128 ≤ (y 0).val ∧ (y 0).val < 128 + 128; omega
      | ⟨1, _⟩ => show 0 ≤ (y 1).val ∧ (y 1).val < 0 + 128; omega

/-- The two rows of a [1, 2, 128] buffer, stored one after the other. -/
theorem pair_read {κ : Kind} {sp : Space} {e : EltTy} (v : View sig κ sp S1x2x128 e) (f : v.ty.Contents (Elt Ideal))
    (w0 w1 : S1x1x128.Idx → Elt Ideal e) (G : S1x2x128.Idx → Elt Ideal e)
    (h0 : ∀ z, w0 z = G ((Rect.unit (s := S1x2x128) ![0, 0, 0] S1x1x128.size inb_S1x2x128_S1x1x128_0_0_0).emb z))
    (h1 : ∀ z, w1 z = G ((Rect.unit (s := S1x2x128) ![0, 1, 0] S1x1x128.size inb_S1x2x128_S1x1x128_0_1_0).emb z)) (y : S1x2x128.Idx) :
    v.read (Elt Ideal) (v.writes (Elt Ideal) f [⟨Rect.unit (s := S1x2x128) ![0, 1, 0] S1x1x128.size inb_S1x2x128_S1x1x128_0_1_0, w1⟩, ⟨Rect.unit (s := S1x2x128) ![0, 0, 0] S1x1x128.size inb_S1x2x128_S1x1x128_0_0_0, w0⟩]) y = G y := by
  have hy0 : (y 0).val < 1 := (y 0).isLt
  have hy1 : (y 1).val < 2 := (y 1).isLt
  have hy2 : (y 2).val < 128 := (y 2).isLt
  refine View.read_writes_apply_of_pieces v f G _ ?_ y ?_
  · intro p hp x
    rcases List.mem_pair.mp hp with rfl | rfl
    · exact h1 x
    · exact h0 x
  · by_cases h : (y 1).val < 1
    · refine ⟨_, List.mem_pair.mpr (.inr rfl), (Rect.mem_set_unit (inb := inb_S1x2x128_S1x1x128_0_0_0)).mpr fun a => ?_⟩
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + 128; omega
    · refine ⟨_, List.mem_pair.mpr (.inl rfl), (Rect.mem_set_unit (inb := inb_S1x2x128_S1x1x128_0_1_0)).mpr fun a => ?_⟩
      match a with
      | ⟨0, _⟩ => show 0 ≤ (y 0).val ∧ (y 0).val < 0 + 1; omega
      | ⟨1, _⟩ => show 1 ≤ (y 1).val ∧ (y 1).val < 1 + 1; omega
      | ⟨2, _⟩ => show 0 ≤ (y 2).val ∧ (y 2).val < 0 + 128; omega

theorem emb_full {s : Shape} (off : Fin s.rank → ℕ) (h0 : ∀ a, off a = 0) (inb : ∀ a, off a + s.size a ≤ s.size a) (z : s.Idx) :
    (Rect.unit (s := s) off s.size inb).emb z = z := by
  refine funext fun a => Fin.ext ?_
  show off a + 1 * (z a).val = (z a).val
  rw [h0]; omega

/-- One store over a whole buffer. -/
theorem full_read {κ : Kind} {sp : Space} {e : EltTy} {s : Shape} (v : View sig κ sp s e) (f : v.ty.Contents (Elt Ideal))
    (off : Fin s.rank → ℕ) (h0 : ∀ a, off a = 0) (inb : ∀ a, off a + s.size a ≤ s.size a) (w : s.Idx → Elt Ideal e) (y : s.Idx) :
    v.read (Elt Ideal) (v.writes (Elt Ideal) f [⟨Rect.unit (s := s) off s.size inb, w⟩]) y = w y := by
  refine View.read_writes_apply_of_pieces v f w _ ?_ y ?_
  · intro p hp x
    obtain rfl := List.mem_singleton.mp hp
    exact congrArg w (emb_full off h0 inb x).symm
  · refine ⟨_, List.mem_singleton.mpr rfl, (Rect.mem_set_unit (inb := inb)).mpr fun a => ?_⟩
    rw [h0 a]
    exact ⟨Nat.zero_le _, by have := (y a).isLt; omega⟩

theorem zero2 : ∀ a : Fin 2, (![0, 0] : Fin 2 → ℕ) a = 0 := by decide

theorem rowof_lo (x : Vec Ideal S1x2x128 .f32) (a : Fin 128) :
    x ((Rect.unit (s := S1x2x128) ![0, 0, 0] S1x1x128.size inb_S1x2x128_S1x1x128_0_0_0).emb (ix3 0 0 a)) = ROWOF x ⟨a.val, by omega⟩ := by
  refine congrArg x (funext fun b => Fin.ext ?_)
  match b with
  | ⟨0, _⟩ => rfl
  | ⟨1, _⟩ => show 0 + 1 * 0 = a.val / 128; omega
  | ⟨2, _⟩ => show 0 + 1 * a.val = a.val % 128; omega
theorem rowof_hi (x : Vec Ideal S1x2x128 .f32) (a : Fin 128) :
    x ((Rect.unit (s := S1x2x128) ![0, 1, 0] S1x1x128.size inb_S1x2x128_S1x1x128_0_1_0).emb (ix3 0 0 a)) = ROWOF x ⟨128 + a.val, by omega⟩ := by
  refine congrArg x (funext fun b => Fin.ext ?_)
  match b with
  | ⟨0, _⟩ => rfl
  | ⟨1, _⟩ => show 1 + 1 * 0 = (128 + a.val) / 128; omega
  | ⟨2, _⟩ => show 0 + 1 * a.val = (128 + a.val) % 128; omega

set_option maxHeartbeats 2000000 in
/-- The first part: the accumulators start, the row statistics are laid along rows. -/
theorem part51V (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole) (x4 x5 : Vec Ideal S1x2x128 .f32)
    (f4 : BufTy.Contents (Elt Ideal) arg4.view.ty) (f5 : BufTy.Contents (Elt Ideal) arg5.view.ty) (f12 : BufTy.Contents (Elt Ideal) arg12.view.ty) (f13 : BufTy.Contents (Elt Ideal) arg13.view.ty) (f17 : BufTy.Contents (Elt Ideal) arg17.view.ty) (f18 : BufTy.Contents (Elt Ideal) arg18.view.ty)
    (h4 : ∀ y, (arg4.view.read (Elt Ideal) f4 y : EReal) = x4 y) (h5 : ∀ y, (arg5.view.read (Elt Ideal) f5 y : EReal) = x5 y) (E : Set ℕ)
    {β : Type} {kk : (Σ' (arg0 : BitVec 32) (v31 : FVec Ideal S128x128 .f32), Vec Ideal S128x128 .f32) → Prog (TpuEff nD τ sig (Elt Ideal) Λ₀ .tc) β} {Q : β → sProp 𝕄G} :
    (iprop((arg4.view.loc (c : Thread nD τ) ↦[arg4.view.set]{fullShare} f4) ∗ (arg5.view.loc (c : Thread nD τ) ↦[arg5.view.set]{fullShare} f5) ∗ (arg12.view.loc (c : Thread nD τ) ↦[arg12.view.set]{fullShare} f12) ∗ (arg13.view.loc (c : Thread nD τ) ↦[arg13.view.set]{fullShare} f13) ∗ (arg17.view.loc (c : Thread nD τ) ↦[arg17.view.set]{fullShare} f17) ∗ (arg18.view.loc (c : Thread nD τ) ↦[arg18.view.set]{fullShare} f18) ∗
      (∀ v31 v32 a, ⌜∀ z, (k0_pay444 (F := Ideal) v31 z : EReal) = ROWOF x5 ⟨128 + (z 0).val, by have h := (z 0).isLt; change (z 0).val < 128 at h; omega⟩⌝ -∗
       ((arg4.view.loc (c : Thread nD τ) ↦[arg4.view.set]{fullShare} f4) ∗ (arg5.view.loc (c : Thread nD τ) ↦[arg5.view.set]{fullShare} f5) ∗ (∃ f, (arg12.view.loc (c : Thread nD τ) ↦[arg12.view.set]{fullShare} f) ∗ ⌜∀ y, (arg12.view.read (Elt Ideal) f y : EReal) = ROWOF x4 (y 0)⌝)
        ∗ (∃ w0, (arg13.view.loc (c : Thread nD τ) ↦[arg13.view.set]{fullShare} (arg13.view.writes (Elt Ideal) f13 [⟨Rect.unit (s := S256x128) ![0, 0] S128x128.size inb_S256x128_S128x128_0_0, w0⟩])) ∗ ⌜∀ z, (w0 z : EReal) = ROWOF x5 ⟨(z 0).val, by have h := (z 0).isLt; change (z 0).val < 128 at h; omega⟩⌝)
        ∗ (∃ f, (arg17.view.loc (c : Thread nD τ) ↦[arg17.view.set]{fullShare} f) ∗ ⌜∀ y, (arg17.view.read (Elt Ideal) f y : EReal) = if vFirst i then 0 else arg17.view.read (Elt Ideal) f17 y⌝)
        ∗ (∃ f, (arg18.view.loc (c : Thread nD τ) ↦[arg18.view.set]{fullShare} f) ∗ ⌜∀ y, (arg18.view.read (Elt Ideal) f y : EReal) = if vFirst i then 0 else arg18.view.read (Elt Ideal) f18 y⌝))
       -∗ wp frame (wpE (defs₀ (F := Ideal)) Variants.none (c : Thread nD τ) none) E (kk ⟨a, v31, v32⟩) Q)) : sProp 𝕄G)
      ⊢ wp frame (wpE (defs₀ (F := Ideal)) Variants.none (c : Thread nD τ) none) E (k0_part51 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= kk) Q := by
  simp only [k0_part51_eq_skeleton]; unfold k0_part51_skel
  iintro ⟨H4, H5, H12, H13, H17, H18, Hk⟩
  by_cases hc0 : vFirst i
  · sl_exec (disch := first | sl_exact hc0)
    iapply Hk
    · ipureintro
      intro z
      rw [pay444_apply]
      exact (h5 _).trans (rowof_hi x5 (z 0))
    isplitl [H4]
    · iexact H4
    isplitl [H5]
    · iexact H5
    isplitl [H12]
    · iexists _
      isplitl
      · iexact H12
      ipureintro
      refine halves_read arg12.view f12 _ _ (fun y => ROWOF x4 (y 0)) (fun z => ?_) (fun z => ?_)
      · rw [pay440_apply]
        exact ((h4 _).trans (rowof_lo x4 (z 0))).trans (congrArg (ROWOF x4) (Fin.ext (show (z 0).val = 0 + 1 * (z 0).val by omega)))
      · rw [pay442_apply]
        exact ((h4 _).trans (rowof_hi x4 (z 0))).trans (congrArg (ROWOF x4) (Fin.ext (show 128 + (z 0).val = 128 + 1 * (z 0).val by omega)))
    isplitl [H13]
    · iexists _
      isplitl
      · iexact H13
      ipureintro
      intro z
      rw [pay441_apply]
      exact (h5 _).trans (rowof_lo x5 (z 0))
    isplitl [H17]
    · iexists _
      isplitl
      · iexact H17
      ipureintro
      intro y
      rw [if_pos hc0]
      exact (full_read arg17.view f17 _ zero2 _ _ y).trans (pay438_apply y)
    iexists _
    isplitl
    · iexact H18
    ipureintro
    intro y
    rw [if_pos hc0]
    exact (full_read arg18.view f18 _ zero2 _ _ y).trans (pay439_apply y)
  · sl_exec (disch := first | sl_exact hc0)
    iapply Hk
    · ipureintro
      intro z
      rw [pay444_apply]
      exact (h5 _).trans (rowof_hi x5 (z 0))
    isplitl [H4]
    · iexact H4
    isplitl [H5]
    · iexact H5
    isplitl [H12]
    · iexists _
      isplitl
      · iexact H12
      ipureintro
      refine halves_read arg12.view f12 _ _ (fun y => ROWOF x4 (y 0)) (fun z => ?_) (fun z => ?_)
      · rw [pay440_apply]
        exact ((h4 _).trans (rowof_lo x4 (z 0))).trans (congrArg (ROWOF x4) (Fin.ext (show (z 0).val = 0 + 1 * (z 0).val by omega)))
      · rw [pay442_apply]
        exact ((h4 _).trans (rowof_hi x4 (z 0))).trans (congrArg (ROWOF x4) (Fin.ext (show 128 + (z 0).val = 128 + 1 * (z 0).val by omega)))
    isplitl [H13]
    · iexists _
      isplitl
      · iexact H13
      ipureintro
      intro z
      rw [pay441_apply]
      exact (h5 _).trans (rowof_lo x5 (z 0))
    isplitl [H17]
    · iexists _
      isplitl
      · iexact H17
      ipureintro
      intro y
      rw [if_neg hc0]
    iexists _
    isplitl
    · iexact H18
    ipureintro
    intro y
    rw [if_neg hc0]

end Cert.KernelIdeal.Gen

end
-- ==== Proof.Value.Pay2.lean ====
module

public import proofs.«01_k».proof.Proof.Value.Defs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The values the body computes between its loops, named.
-/
theorem val_eq (x1 x2 : S256x4096.Idx → EReal) (x3 : S1x4096.Idx → EReal) (x4 x5 : S1x2x128.Idx → EReal) (y : S256x128.Idx) : ((k0_pay454 (F := Ideal) (k0_pay452 (VR x5)) (k0_pay453 (BM x1 x2 x3 x4 x5))) y : EReal) = BV x1 x2 x3 x4 x5 (y 0) := by
  refine (pay454_apply _ _ y).trans ?_
  unfold BV VR
  rfl
theorem fac_eq (x1 x2 : S256x4096.Idx → EReal) (x3 : S1x4096.Idx → EReal) (x4 x5 : S1x2x128.Idx → EReal) (y : S256x128.Idx) : (k0_pay458 (F := Ideal) (VR x5) (k0_pay454 (F := Ideal) (k0_pay452 (VR x5)) (k0_pay453 (BM x1 x2 x3 x4 x5))) (k0_pay455 (F := Ideal) (k0_pay452 (VR x5)) (k0_pay453 (BM x1 x2 x3 x4 x5))) y : EReal) = BSC x1 x2 x3 x4 x5 (y 0) := by
  refine (pay458_apply _ _ _ y).trans ?_
  rw [val_eq]
  unfold BSC VR
  rfl
theorem scl_eq0 (x1 x2 : S256x4096.Idx → EReal) (x3 : S1x4096.Idx → EReal) (x4 x5 : S1x2x128.Idx → EReal) (z : S1x1x128.Idx) (y : S1x2x128.Idx) (h : (z 2).val = 128 * (y 1).val + (y 2).val) :
    (k0_pay459 (F := Ideal) (k0_pay454 (F := Ideal) (k0_pay452 (VR x5)) (k0_pay453 (BM x1 x2 x3 x4 x5))) (k0_pay455 (F := Ideal) (k0_pay452 (VR x5)) (k0_pay453 (BM x1 x2 x3 x4 x5))) z : EReal) = OUT9 x1 x2 x3 x4 x5 y := by
  rw [pay459_apply, pay457_apply, val_eq]
  unfold OUT9
  exact congrArg (fun r => SCL (BV x1 x2 x3 x4 x5 r)) (Fin.ext h)
theorem scl_eq1 (x1 x2 : S256x4096.Idx → EReal) (x3 : S1x4096.Idx → EReal) (x4 x5 : S1x2x128.Idx → EReal) (z : S1x1x128.Idx) (y : S1x2x128.Idx) (h : 128 + (z 2).val = 128 * (y 1).val + (y 2).val) :
    (k0_pay1 (F := Ideal) (k0_pay457 (F := Ideal) (k0_pay454 (F := Ideal) (k0_pay452 (VR x5)) (k0_pay453 (BM x1 x2 x3 x4 x5))) (k0_pay455 (F := Ideal) (k0_pay452 (VR x5)) (k0_pay453 (BM x1 x2 x3 x4 x5)))) z : EReal) = OUT9 x1 x2 x3 x4 x5 y := by
  rw [pay1_apply, pay457_apply, val_eq]
  unfold OUT9
  exact congrArg (fun r => SCL (BV x1 x2 x3 x4 x5 r)) (Fin.ext h)

end Cert.KernelIdeal.Gen

end
-- ==== Proof.Value.Body2.lean ====
module

public import proofs.«01_k».proof.Proof.Value.Body
public import proofs.«01_k».proof.Proof.Value.Pay2

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The kernel's body at one grid point, whole.
-/
local notation "𝕄G" => MT nD τ sig Unit (Elt Ideal) ℕ (UR sig nD τ) ℕ

set_option maxHeartbeats 4000000 in
/-- From the inputs' blocks and the accumulators, the body ends with every output named. -/
theorem bodyV (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .fp8e5m2) (harg8 : arg8.IsWhole) (arg9 : Memref sig .tc .vmem S1x2x128 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x4096 .f32) (harg17 : arg17.IsWhole) (arg18 : Memref sig .tc .vmem S8x4096 .f32) (harg18 : arg18.IsWhole)
    (x1 : Vec Ideal S256x4096 .bf16) (x2 : Vec Ideal S256x4096 .bf16) (x3 : Vec Ideal S1x4096 .f32) (x4 : Vec Ideal S1x2x128 .f32) (x5 : Vec Ideal S1x2x128 .f32)
    (d6 d7 : Vec Ideal S1x4096 .f32) (d17 d18 : Vec Ideal S8x4096 .f32) (E : Set ℕ) (K : PUnit → sProp 𝕄G) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare d6 ∗ owns (c : Thread nD τ) arg7 fullShare d7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare d17 ∗ owns (c : Thread nD τ) arg18 fullShare d18 ∗
      ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare (if vLast i then SUM8 (OUT17 i x1 x2 x4 x5 d17) else d6) ∗ owns (c : Thread nD τ) arg7 fullShare (if vLast i then SUM8 (OUT18 i x2 d18) else d7)
        ∗ owns (c : Thread nD τ) arg8 fullShare (OUT8 x1 x2 x3 x4 x5) ∗ owns (c : Thread nD τ) arg9 fullShare (OUT9 x1 x2 x3 x4 x5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare (OUT17 i x1 x2 x4 x5 d17) ∗ owns (c : Thread nD τ) arg18 fullShare (OUT18 i x2 d18)) -∗ K PUnit.unit)) : sProp 𝕄G)
      ⊢ wp frame (wpE (defs₀ (F := Ideal)) Variants.none c none) E (cc0_ln_bwd_e5m2 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ln_bwd_e5m2_eq_skeleton]; unfold cc0_ln_bwd_e5m2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, Hk⟩
  have h1 : ∀ y, (arg1.view.read (Elt Ideal) f1 y : EReal) = x1 y := fun y => congrFun hf1 y
  have h2 : ∀ y, (arg2.view.read (Elt Ideal) f2 y : EReal) = x2 y := fun y => congrFun hf2 y
  have h3 : ∀ y, (arg3.view.read (Elt Ideal) f3 y : EReal) = GAM x3 (y 1) := fun y => (congrFun hf3 y).trans (congrArg x3 (by
    refine funext fun a => Fin.ext ?_
    match a with
    | ⟨0, _⟩ => have h := (y 0).isLt; change (y 0).val < 1 at h; show (y 0).val = 0; omega
    | ⟨1, _⟩ => rfl))
  have h4 : ∀ y, (arg4.view.read (Elt Ideal) f4 y : EReal) = x4 y := fun y => congrFun hf4 y
  have h5 : ∀ y, (arg5.view.read (Elt Ideal) f5 y : EReal) = x5 y := fun y => congrFun hf5 y
  iapply (part51V c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x4 x5 f4 f5 f12 f13 f17 f18 h4 h5 E)
  isplitl [H4]
  · iexact H4
  isplitl [H5]
  · iexact H5
  isplitl [H12]
  · iexact H12
  isplitl [H13]
  · iexact H13
  isplitl [H17]
  · iexact H17
  isplitl [H18]
  · iexact H18
  iintro %v31 %v32 %a0 %hv31
  iintro ⟨H4, H5, ⟨%g12, H12, %h12⟩, ⟨%w0, H13, %hw0⟩, ⟨%g17, H17, %h17⟩, ⟨%g18, H18, %h18⟩⟩
  simp only [k0_part52_eq_skeleton, k0_part53_eq_skeleton, k0_part54_eq_skeleton]
  have h13 := halves_read arg13.view (arg13.view.junk (Val := Elt Ideal)) w0 (k0_pay444 (F := Ideal) v31) (fun y => ROWOF x5 (y 0))
    (fun z => (hw0 z).trans (congrArg (ROWOF x5) (Fin.ext (show (z 0).val = 0 + 1 * (z 0).val by omega))))
    (fun z => (hv31 z).trans (congrArg (ROWOF x5) (Fin.ext (show 128 + (z 0).val = 128 + 1 * (z 0).val by omega))))
  generalize hX13 : (arg13.view.writes (Elt Ideal) (arg13.view.junk (Val := Elt Ideal)) [⟨Rect.unit (s := S256x128) ![128, 0] S128x128.size inb_S256x128_S128x128_128_0, k0_pay444 (F := Ideal) v31⟩, ⟨Rect.unit (s := S256x128) ![0, 0] S128x128.size inb_S256x128_S128x128_0_0, w0⟩]) = X13 at h13
  sl_exec
  iapply (loop1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 x1 x2 (GAM x3) (ROWOF x4) (ROWOF x5) f1 f2 f3 g12 X13 h1 h2 h3 h12 h13 E f10 f11 f14 f15 g17 g18)
  isplitl [H1]
  · iexact H1
  isplitl [H2]
  · iexact H2
  isplitl [H3]
  · iexact H3
  isplitl [H12]
  · iexact H12
  isplitl [H13]
  · rw [← hX13]; iexact H13
  isplitl [H10]
  · iexact H10
  isplitl [H11]
  · iexact H11
  isplitl [H14]
  · iexact H14
  isplitl [H15]
  · iexact H15
  isplitl [H17]
  · iexact H17
  isplitl [H18]
  · iexact H18
  iintro ⟨H1, H2, H3, H12, H13, ⟨%g10, H10, %h10⟩, ⟨%g11, H11, %h11⟩, ⟨%g14, H14, %h14⟩, ⟨%g15, H15, %h15⟩, ⟨%e17, H17, %he17⟩, ⟨%e18, H18, %he18⟩⟩
  have hr14 : (arg14.view.readAt (Elt Ideal) (Rect.unit (s := S256x128) ![0, 0] S256x128.size inb_S256x128_S256x128_0_0).toLoadRect g14) = (S1E x2 (GAM x3) : S256x128.Idx → EReal) := funext fun z => (h14 _).trans (congrArg _ (emb_full _ zero2 _ z))
  have hr15 : (arg15.view.readAt (Elt Ideal) (Rect.unit (s := S256x128) ![0, 0] S256x128.size inb_S256x128_S256x128_0_0).toLoadRect g15) = (S2E x1 x2 (GAM x3) (ROWOF x4) (ROWOF x5) : S256x128.Idx → EReal) := funext fun z => (h15 _).trans (congrArg _ (emb_full _ zero2 _ z))
  have hm14 : ∀ y, (arg14.view.read (Elt Ideal) (arg14.view.writes (Elt Ideal) (arg14.view.junk (Val := Elt Ideal)) [⟨Rect.unit (s := S256x128) ![0, 0] S256x128.size inb_S256x128_S256x128_0_0, k0_pay446 (F := Ideal) (S1E x2 (GAM x3))⟩]) y : EReal) = BMG x2 x3 (y 0) := fun y =>
    (full_read arg14.view _ _ zero2 _ _ y).trans ((pay446_apply _ y).trans rfl)
  have hm15 : ∀ y, (arg15.view.read (Elt Ideal) (arg15.view.writes (Elt Ideal) (arg15.view.junk (Val := Elt Ideal)) [⟨Rect.unit (s := S256x128) ![0, 0] S256x128.size inb_S256x128_S256x128_0_0, k0_pay447 (F := Ideal) (S2E x1 x2 (GAM x3) (ROWOF x4) (ROWOF x5))⟩]) y : EReal) = BMGX x1 x2 x3 x4 x5 (y 0) := fun y =>
    (full_read arg15.view _ _ zero2 _ _ y).trans ((pay447_apply _ y).trans rfl)
  generalize hX14 : (arg14.view.writes (Elt Ideal) (arg14.view.junk (Val := Elt Ideal)) [⟨Rect.unit (s := S256x128) ![0, 0] S256x128.size inb_S256x128_S256x128_0_0, k0_pay446 (F := Ideal) (S1E x2 (GAM x3))⟩]) = X14 at hm14
  generalize hX15 : (arg15.view.writes (Elt Ideal) (arg15.view.junk (Val := Elt Ideal)) [⟨Rect.unit (s := S256x128) ![0, 0] S256x128.size inb_S256x128_S256x128_0_0, k0_pay447 (F := Ideal) (S2E x1 x2 (GAM x3) (ROWOF x4) (ROWOF x5))⟩]) = X15 at hm15
  sl_exec
  iapply (loop2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v31 v32 (BG x2 x3) (BX x1 x4 x5) (BMG x2 x3) (BMGX x1 x2 x3 x4 x5) g11 X14 X15 h11 hm14 hm15 E g10 f16 h10)
  isplitl [H11]
  · iexact H11
  isplitl [H14]
  · rw [← hX14]; iexact H14
  isplitl [H15]
  · rw [← hX15]; iexact H15
  isplitl [H10]
  · iexact H10
  isplitl [H16]
  · iexact H16
  iintro ⟨H11, H14, H15, ⟨%e10, H10, %he10⟩, ⟨%g16, H16, %h16⟩⟩
  have hr13 : (arg13.view.readAt (Elt Ideal) (Rect.unit (s := S256x128) ![0, 0] S256x128.size inb_S256x128_S256x128_0_0).toLoadRect X13) = (VR x5 : S256x128.Idx → EReal) := funext fun z => (h13 _).trans (congrArg (VR x5) (emb_full _ zero2 _ z))
  have hr16 : (arg16.view.readAt (Elt Ideal) (Rect.unit (s := S256x128) ![0, 0] S256x128.size inb_S256x128_S256x128_0_0).toLoadRect g16) = (BM x1 x2 x3 x4 x5 : S256x128.Idx → EReal) := funext fun z => (h16 _).trans (congrArg (BM x1 x2 x3 x4 x5) (emb_full _ zero2 _ z))
  have hs16 : ∀ y, (arg16.view.read (Elt Ideal) (arg16.view.writes (Elt Ideal) (arg16.view.junk (Val := Elt Ideal)) [⟨Rect.unit (s := S256x128) ![0, 0] S256x128.size inb_S256x128_S256x128_0_0, k0_pay458 (F := Ideal) (VR x5) (k0_pay454 (F := Ideal) (k0_pay452 (F := Ideal) (VR x5)) (k0_pay453 (F := Ideal) (BM x1 x2 x3 x4 x5))) (k0_pay455 (F := Ideal) (k0_pay452 (F := Ideal) (VR x5)) (k0_pay453 (F := Ideal) (BM x1 x2 x3 x4 x5)))⟩]) y : EReal) = BSC x1 x2 x3 x4 x5 (y 0) := fun y =>
    (full_read arg16.view _ _ zero2 _ _ y).trans (fac_eq x1 x2 x3 x4 x5 y)
  generalize hX16 : (arg16.view.writes (Elt Ideal) (arg16.view.junk (Val := Elt Ideal)) [⟨Rect.unit (s := S256x128) ![0, 0] S256x128.size inb_S256x128_S256x128_0_0, k0_pay458 (F := Ideal) (VR x5) (k0_pay454 (F := Ideal) (k0_pay452 (F := Ideal) (VR x5)) (k0_pay453 (F := Ideal) (BM x1 x2 x3 x4 x5))) (k0_pay455 (F := Ideal) (k0_pay452 (F := Ideal) (VR x5)) (k0_pay453 (F := Ideal) (BM x1 x2 x3 x4 x5)))⟩]) = X16 at hs16
  sl_exec
  iapply (loop3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BZ x1 x2 x3 x4 x5) (BSC x1 x2 x3 x4 x5) e10 X16 he10 hs16 E f8)
  isplitl [H10]
  · iexact H10
  isplitl [H16]
  · rw [← hX16]; iexact H16
  isplitl [H8]
  · iexact H8
  iintro ⟨H10, H16, ⟨%g8, H8, %h8⟩⟩
  have h9 := pair_read arg9.view (arg9.view.junk (Val := Elt Ideal)) (k0_pay459 (F := Ideal) (k0_pay454 (F := Ideal) (k0_pay452 (F := Ideal) (VR x5)) (k0_pay453 (F := Ideal) (BM x1 x2 x3 x4 x5))) (k0_pay455 (F := Ideal) (k0_pay452 (F := Ideal) (VR x5)) (k0_pay453 (F := Ideal) (BM x1 x2 x3 x4 x5))))
    (k0_pay1 (F := Ideal) (k0_pay457 (F := Ideal) (k0_pay454 (F := Ideal) (k0_pay452 (F := Ideal) (VR x5)) (k0_pay453 (F := Ideal) (BM x1 x2 x3 x4 x5))) (k0_pay455 (F := Ideal) (k0_pay452 (F := Ideal) (VR x5)) (k0_pay453 (F := Ideal) (BM x1 x2 x3 x4 x5))))) (OUT9 x1 x2 x3 x4 x5)
    (fun z => by
      refine scl_eq0 x1 x2 x3 x4 x5 z _ ?_
      have h := (z 1).isLt
      change (z 1).val < 1 at h
      show (z 2).val = 128 * (0 + 1 * (z 1).val) + (0 + 1 * (z 2).val)
      omega)
    (fun z => by
      refine scl_eq1 x1 x2 x3 x4 x5 z _ ?_
      have h := (z 1).isLt
      change (z 1).val < 1 at h
      show 128 + (z 2).val = 128 * (1 + 1 * (z 1).val) + (0 + 1 * (z 2).val)
      omega)
  have e17v : arg17.view.read (Elt Ideal) e17 = (OUT17 i x1 x2 x4 x5 d17 : S8x4096.Idx → EReal) := funext fun y => by
    rw [he17 y, h17 y, ← hf17]; rfl
  have e18v : arg18.view.read (Elt Ideal) e18 = (OUT18 i x2 d18 : S8x4096.Idx → EReal) := funext fun y => by
    rw [he18 y, h18 y, ← hf18]; rfl
  have hr17 : (arg17.view.readAt (Elt Ideal) (Rect.unit (s := S8x4096) ![0, 0] S8x4096.size inb_S8x4096_S8x4096_0_0).toLoadRect e17) = (OUT17 i x1 x2 x4 x5 d17 : S8x4096.Idx → EReal) := funext fun z => (congrFun e17v _).trans (congrArg _ (emb_full _ zero2 _ z))
  have hr18 : (arg18.view.readAt (Elt Ideal) (Rect.unit (s := S8x4096) ![0, 0] S8x4096.size inb_S8x4096_S8x4096_0_0).toLoadRect e18) = (OUT18 i x2 d18 : S8x4096.Idx → EReal) := funext fun z => (congrFun e18v _).trans (congrArg _ (emb_full _ zero2 _ z))
  by_cases hc1 : vLast i
  · sl_exec (disch := first | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · rw [if_pos hc1]
      iexists _; isplitr; swap; · iexact H6
      ipureintro; exact funext fun y => (full_read arg6.view _ _ zero2 _ _ y).trans (pay3_apply _ y)
    isplitl [H7]
    · rw [if_pos hc1]
      iexists _; isplitr; swap; · iexact H7
      ipureintro; exact funext fun y => (full_read arg7.view _ _ zero2 _ _ y).trans (pay4_apply _ y)
    isplitl [H8]
    · iexists _; isplitr; swap; · iexact H8
      ipureintro; exact funext h8
    isplitl [H9]
    · iexists _; isplitr; swap; · iexact H9
      ipureintro; exact funext h9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _; isplitr; swap; · iexact H17
      ipureintro; exact e17v
    iexists _; isplitr; swap; · iexact H18
    ipureintro; exact e18v
  · sl_exec (disch := first | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · rw [if_neg hc1]
      iexists _; isplitr; swap; · iexact H6
      ipureintro; exact hf6
    isplitl [H7]
    · rw [if_neg hc1]
      iexists _; isplitr; swap; · iexact H7
      ipureintro; exact hf7
    isplitl [H8]
    · iexists _; isplitr; swap; · iexact H8
      ipureintro; exact funext h8
    isplitl [H9]
    · iexists _; isplitr; swap; · iexact H9
      ipureintro; exact funext h9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _; isplitr; swap; · iexact H17
      ipureintro; exact e17v
    iexists _; isplitr; swap; · iexact H18
    ipureintro; exact e18v

end Cert.KernelIdeal.Gen

end
-- ==== Proof.Value.Frame.lean ====
module

public import proofs.«01_k».proof.Proof.Value.Body2
public import proofs.«01_k».proof.Proof.KernelIdealFrame.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The run with every result named: what each grid point leaves in the outputs and in the accumulators.
-/
local notation "𝕄G" => MT nD τ sig Unit (Elt Ideal) ℕ (UR sig nD τ) ℕ

variable (m : (ℓ : Loc nD τ sig) → Buf (Elt Ideal) ℓ) (ρ : Dev nD → PrngReg)

/-- The `dgamma` accumulator after the first `n` grid points. -/
def acc17 (c : Dev nD) (n : ℕ) (y : S8x4096.Idx) : EReal :=
  ∑ u ∈ Finset.range n, if h : u < cfg0.N then
    ∑ j ∈ Finset.range 8, DGT (iblk m c 0 ⟨u, h⟩) (iblk m c 1 ⟨u, h⟩) (ROWOF (iblk m c 3 ⟨u, h⟩)) (ROWOF (iblk m c 4 ⟨u, h⟩)) j y
  else 0
/-- The `dbeta` accumulator after the first `n` grid points. -/
def acc18 (c : Dev nD) (n : ℕ) (y : S8x4096.Idx) : EReal :=
  ∑ u ∈ Finset.range n, if h : u < cfg0.N then ∑ j ∈ Finset.range 8, DBT (iblk m c 1 ⟨u, h⟩) j y else 0

theorem acc17_step (c : Dev nD) (t : Fin cfg0.N) (d : S8x4096.Idx → EReal) (hd : t.val ≠ 0 → d = acc17 m c t.val) :
    OUT17 (grid0.coords t) (iblk m c 0 t) (iblk m c 1 t) (iblk m c 3 t) (iblk m c 4 t) d = acc17 m c (t.val + 1) := by
  have hN : t.val < 120 := lt_of_lt_of_eq t.isLt (show cfg0.N = 120 from N_0)
  funext y
  unfold OUT17 acc17
  rw [Finset.sum_range_succ (n := t.val), dif_pos t.isLt]
  refine congrArg₂ (· + ·) ?_ rfl
  by_cases h : t.val = 0
  · rw [if_pos ((hcond0_0 t).mpr (by omega)), h]; rfl
  · rw [if_neg (fun hh => h (by have := (hcond0_0 t).mp hh; omega)), hd h]; rfl

theorem acc18_step (c : Dev nD) (t : Fin cfg0.N) (d : S8x4096.Idx → EReal) (hd : t.val ≠ 0 → d = acc18 m c t.val) :
    OUT18 (grid0.coords t) (iblk m c 1 t) d = acc18 m c (t.val + 1) := by
  have hN : t.val < 120 := lt_of_lt_of_eq t.isLt (show cfg0.N = 120 from N_0)
  funext y
  unfold OUT18 acc18
  rw [Finset.sum_range_succ (n := t.val), dif_pos t.isLt]
  refine congrArg₂ (· + ·) ?_ rfl
  by_cases h : t.val = 0
  · rw [if_pos ((hcond0_0 t).mpr (by omega)), h]; rfl
  · rw [if_neg (fun hh => h (by have := (hcond0_0 t).mp hh; omega)), hd h]; rfl

/-- What is kept from point to point: the scratch buffers, the two accumulators named once the first point has run. -/
def vPhi (c : Dev nD) (t : Fin (cfg0.N + 1)) : sProp 𝕄G :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)
    ∗ (∃ d, ⌜t.val ≠ 0 → d = acc17 m c t.val⌝ ∗ owns (c : Thread nD τ) scM0_7 fullShare d)
    ∗ (∃ d, ⌜t.val ≠ 0 → d = acc18 m c t.val⌝ ∗ owns (c : Thread nD τ) scM0_8 fullShare d)) ∗ (∃ r, prngReg c r))

/-- The proof data of the one pipeline on core `c`, every result named. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => SUM8 (acc17 m c (t.val + 1))
    | ⟨6, _⟩ => SUM8 (acc18 m c (t.val + 1))
    | ⟨7, _⟩ => OUT8 (iblk m c 0 t) (iblk m c 1 t) (iblk m c 2 t) (iblk m c 3 t) (iblk m c 4 t)
    | ⟨8, _⟩ => OUT9 (iblk m c 0 t) (iblk m c 1 t) (iblk m c 2 t) (iblk m c 3 t) (iblk m c 4 t)
  Φ t := vPhi m c t
  q _ := fullShare
  owed _ := 0

theorem vA_eq (c : Dev nD) (w : Fin cfg0.W) : (vdats m 0 c).A w = V m c (Pipeline.arrRef spec0 w) := by
  dsimp only [vdats]

theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t = SUM8 (acc17 m c (t.val + 1)) := by dsimp only [vdats]
theorem vafter6 (c : Dev nD) (t : Fin cfg0.N) : (vdats m 0 c).after 6 t = SUM8 (acc18 m c (t.val + 1)) := by dsimp only [vdats]
theorem vafter7 (c : Dev nD) (t : Fin cfg0.N) : (vdats m 0 c).after 7 t = OUT8 (iblk m c 0 t) (iblk m c 1 t) (iblk m c 2 t) (iblk m c 3 t) (iblk m c 4 t) := by dsimp only [vdats]
theorem vafter8 (c : Dev nD) (t : Fin cfg0.N) : (vdats m 0 c).after 8 t = OUT9 (iblk m c 0 t) (iblk m c 1 t) (iblk m c 2 t) (iblk m c 3 t) (iblk m c 4 t) := by dsimp only [vdats]
theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d
theorem vbefore4 (c : Dev nD) (t : Fin cfg0.N) (d) : (vdats m 0 c).before 4 t d = iblk m c 4 t :=
  before0_4_of m (vdats m 0 c) (vA_eq m c 4) (vafter4 m c) t d

/-- What a point leaves in windows 5 and 6: at the last point the sums, before it the buffer as found. -/
theorem vleaves5 (c : Dev nD) (t : Fin cfg0.N) (d) :
    (owns (c : Thread nD τ) (ms0_5 t) fullShare (if vLast (grid0.coords t) then SUM8 (acc17 m c (t.val + 1)) else (vdats m 0 c).before 5 t d) : sProp 𝕄G) ⊢ (vdats m 0 c).leavesExact 5 t := by
  by_cases h : vLast (grid0.coords t)
  · rw [if_pos h, show (vdats m 0 c).leavesExact 5 t = owns (c : Thread nD τ) (ms0_5 t) fullShare ((vdats m 0 c).after 5 t) from by
      unfold Dat.leavesExact; rw [show cfg0.idle 5 (grid0.coords t) = false from by show (!(k0_cond2 (grid0.coords t) == 1#1)) = false; rw [show k0_cond2 (grid0.coords t) = 1#1 from h]; rfl], vafter5]
    try exact .rfl
  · rw [if_neg h, Dat.leavesExact_idle (vdats m 0 c) 5 t (by show (!(k0_cond2 (grid0.coords t) == 1#1)) = true; rw [beq_false_of_ne h]; rfl)
      (by rw [← Bool.not_eq_true]; exact fun hf => h ((hcond0_1 t).mpr ((flush0_5 t).mp hf)))]
    iintro H; iexists d; iexact H
theorem vleaves6 (c : Dev nD) (t : Fin cfg0.N) (d) :
    (owns (c : Thread nD τ) (ms0_6 t) fullShare (if vLast (grid0.coords t) then SUM8 (acc18 m c (t.val + 1)) else (vdats m 0 c).before 6 t d) : sProp 𝕄G) ⊢ (vdats m 0 c).leavesExact 6 t := by
  by_cases h : vLast (grid0.coords t)
  · rw [if_pos h, show (vdats m 0 c).leavesExact 6 t = owns (c : Thread nD τ) (ms0_6 t) fullShare ((vdats m 0 c).after 6 t) from by
      unfold Dat.leavesExact; rw [show cfg0.idle 6 (grid0.coords t) = false from by show (!(k0_cond2 (grid0.coords t) == 1#1)) = false; rw [show k0_cond2 (grid0.coords t) = 1#1 from h]; rfl], vafter6]
    try exact .rfl
  · rw [if_neg h, Dat.leavesExact_idle (vdats m 0 c) 6 t (by show (!(k0_cond2 (grid0.coords t) == 1#1)) = true; rw [beq_false_of_ne h]; rfl)
      (by rw [← Bool.not_eq_true]; exact fun hf => h ((hcond0_1 t).mpr ((flush0_6 t).mp hf)))]
    iintro H; iexists d; iexact H

/-- What the body is called with at point `t`, -/
def vbodyPre (c : Dev nD) (t : Fin cfg0.N) : sProp 𝕄G :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d))
    ∗ (∃ d, owns (c : Thread nD τ) (ms0_6 t) fullShare ((vdats m 0 c).before 6 t d))
    ∗ (∃ d, owns (c : Thread nD τ) (ms0_7 t) fullShare ((vdats m 0 c).before 7 t d))
    ∗ (∃ d, owns (c : Thread nD τ) (ms0_8 t) fullShare ((vdats m 0 c).before 8 t d)))

/-- and what it returns. -/
def vbodyPost (c : Dev nD) (t : Fin cfg0.N) : sProp 𝕄G :=
  iprop((vdats m 0 c).Φ t.succ ∗ (vdats m 0 c).owesAt () t.succ
    ∗ (vdats m 0 c).leavesExact 0 t
    ∗ (vdats m 0 c).leavesExact 1 t
    ∗ (vdats m 0 c).leavesExact 2 t
    ∗ (vdats m 0 c).leavesExact 3 t
    ∗ (vdats m 0 c).leavesExact 4 t
    ∗ (vdats m 0 c).leavesExact 5 t
    ∗ (vdats m 0 c).leavesExact 6 t
    ∗ (vdats m 0 c).leavesExact 7 t
    ∗ (vdats m 0 c).leavesExact 8 t)

set_option maxHeartbeats 4000000 in
/-- The body at any point. -/
theorem vsound_body (c : Dev nD) (t : Fin cfg0.N) :
    vbodyPre m c t ⊢ wp Idealize.ShloMosaic.frame (wpE (defs₀ (F := Ideal)) Variants.none c none) Set.univ (bodyAt0 t) (fun _ => vbodyPost m c t) := by
  unfold vbodyPre vbodyPost bodyAt0
  simp only [vbefore0, vbefore1, vbefore2, vbefore3, vbefore4]
  rw [show (vdats m 0 c).owesAt () t.succ = (vdats m 0 c).owesAt () t.castSucc from rfl]
  rw [show (vdats m 0 c).Φ t.succ = vPhi m c t.succ from rfl, show (vdats m 0 c).Φ t.castSucc = vPhi m c t.castSucc from rfl]
  unfold vPhi
  rw [show (vdats m 0 c).leavesExact 0 t = owns (c : Thread nD τ) (ms0_0 t) fullShare ((vdats m 0 c).after 0 t) from by
    unfold Dat.leavesExact; rw [show cfg0.idle 0 (grid0.coords t) = false from rfl], vafter0]
  rw [show (vdats m 0 c).leavesExact 1 t = owns (c : Thread nD τ) (ms0_1 t) fullShare ((vdats m 0 c).after 1 t) from by
    unfold Dat.leavesExact; rw [show cfg0.idle 1 (grid0.coords t) = false from rfl], vafter1]
  rw [show (vdats m 0 c).leavesExact 2 t = owns (c : Thread nD τ) (ms0_2 t) fullShare ((vdats m 0 c).after 2 t) from by
    unfold Dat.leavesExact; rw [show cfg0.idle 2 (grid0.coords t) = false from rfl], vafter2]
  rw [show (vdats m 0 c).leavesExact 3 t = owns (c : Thread nD τ) (ms0_3 t) fullShare ((vdats m 0 c).after 3 t) from by
    unfold Dat.leavesExact; rw [show cfg0.idle 3 (grid0.coords t) = false from rfl], vafter3]
  rw [show (vdats m 0 c).leavesExact 4 t = owns (c : Thread nD τ) (ms0_4 t) fullShare ((vdats m 0 c).after 4 t) from by
    unfold Dat.leavesExact; rw [show cfg0.idle 4 (grid0.coords t) = false from rfl], vafter4]
  rw [show (vdats m 0 c).leavesExact 7 t = owns (c : Thread nD τ) (ms0_7 t) fullShare ((vdats m 0 c).after 7 t) from by
    unfold Dat.leavesExact; rw [show cfg0.idle 7 (grid0.coords t) = false from rfl], vafter7]
  rw [show (vdats m 0 c).leavesExact 8 t = owns (c : Thread nD τ) (ms0_8 t) fullShare ((vdats m 0 c).after 8 t) from by
    unfold Dat.leavesExact; rw [show cfg0.idle 8 (grid0.coords t) = false from rfl], vafter8]
  iintro ⟨⟨⟨HS0, HS1, HS2, HS3, HS4, HS5, HS6, ⟨%e7, %he7, HS7⟩, ⟨%e8, %he8, HS8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have s17 := acc17_step m c t e7 he7
  have s18 := acc18_step m c t e8 he8
  iapply (bodyV c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) ((vdats m 0 c).before 5 t d5) ((vdats m 0 c).before 6 t d6) e7 e8 Set.univ _)
  rw [s17, s18]
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexists _; iexact H7
  isplitl [H8]
  · iexists _; iexact H8
  isplitl [HS0]
  · iexact HS0
  isplitl [HS1]
  · iexact HS1
  isplitl [HS2]
  · iexact HS2
  isplitl [HS3]
  · iexact HS3
  isplitl [HS4]
  · iexact HS4
  isplitl [HS5]
  · iexact HS5
  isplitl [HS6]
  · iexact HS6
  isplitl [HS7]
  · iexact HS7
  isplitl [HS8]
  · iexact HS8
  iintro ⟨H0, H1, H2, H3, H4, H5, H6, H7, H8, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexists _; isplitr; swap; · iexact HS7
        ipureintro; exact fun _ => rfl
      iexists _; isplitr; swap; · iexact HS8
      ipureintro; exact fun _ => rfl
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iapply (vleaves5 m c t d5); iexact H5
  isplitl [H6]
  · iapply (vleaves6 m c t d6); iexact H6
  isplitl [H7]
  · iexact H7
  iexact H8

/-- The library's body obligation, at every point. -/
theorem vbody_obligation (c : Dev nD) : BodyObligation (vdats m 0 c) (defs₀ (F := Ideal)) Variants.none () Set.univ := fun t => by
  rw [bigSep_W0, bigSep_W0, defs₀_row]
  exact triple_restated (vsound_body m c t) rfl .rfl fun _ => .rfl

/-- The launch's invariant is the region's, and back. -/
theorem vhin (c : Dev nD) : Pipeline.ΦA spec0 c ⊢ (vdats m 0 c).Φ 0 := by
  rw [show (vdats m 0 c).Φ 0 = vPhi m c 0 from rfl, PhiA0_eq]
  unfold vPhi
  iintro ⟨⟨HS0, HS1, HS2, HS3, HS4, HS5, HS6, ⟨%e7, HS7⟩, ⟨%e8, HS8⟩⟩, Hg⟩
  isplitl [HS0 HS1 HS2 HS3 HS4 HS5 HS6 HS7 HS8]
  · isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexists e7; isplitr; swap; · iexact HS7
      ipureintro; exact fun h => absurd rfl h
    iexists e8; isplitr; swap; · iexact HS8
    ipureintro; exact fun h => absurd rfl h
  iexact Hg
theorem vhout (c : Dev nD) : (vdats m 0 c).Φ (Fin.last cfg0.N) ⊢ Pipeline.ΦA spec0 c := by
  rw [show (vdats m 0 c).Φ (Fin.last cfg0.N) = vPhi m c (Fin.last cfg0.N) from rfl, PhiA0_eq]
  unfold vPhi
  iintro ⟨⟨HS0, HS1, HS2, HS3, HS4, HS5, HS6, ⟨%e7, -, HS7⟩, ⟨%e8, -, HS8⟩⟩, Hg⟩
  isplitl [HS0 HS1 HS2 HS3 HS4 HS5 HS6 HS7 HS8]
  · isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexists e7; iexact HS7
    iexists e8; iexact HS8
  iexact Hg

set_option backward.isDefEq.respectTransparency.types false in
set_option maxHeartbeats 800000 in
/-- Every run ends with every array of the pipeline at what the proof data names. -/
theorem vrun_main : θ_run defs (onTc (τ := τ) (main (F := Ideal))) (s₀ m ρ)
    (fun r => (Pipeline.FramePost cfgs (vdats m) 0 (Pipeline.afterTail₀ cfgs (vdats m) 0 (V0 m) [hostOps1])) r ∧ r.2.sem = fun _ => 0) :=
  Pipeline.θ_run_frame_around_track (Q' := _) cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := vhin m) (hout := vhout m)

end Cert.KernelIdeal.Gen

end
-- ==== Proof.Value.Search.lean ====
module

public import proofs.«01_k».proof.Proof.Value.Defs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The exponent search against a count, and the powers of two.
-/

/-- The float whose exponent field is `E`, all other bits zero. -/
def FE (E : ℕ) : EReal := Ideal.ofBits .f32 (BitVec.ofNat 32 E <<< 23)

theorem fields : ∀ E : Fin 256, ((BitVec.ofNat 32 E.val <<< 23).extractLsb' 31 1 = 0#1) ∧ ((BitVec.ofNat 32 E.val <<< 23).extractLsb' 23 8).toNat = E.val
    ∧ ((BitVec.ofNat 32 E.val <<< 23).extractLsb' 0 23).toNat = 0 := by decide +kernel

theorem FE_zero : FE 0 = 0 := by
  unfold FE; simp [Ideal.ofBits, Ideal.ieee]
theorem FE_top : FE 255 = ⊤ := by
  obtain ⟨h1, h2, h3⟩ := fields 255
  show Ideal.ieee 8 23 (BitVec.ofNat 32 255 <<< 23) = ⊤
  unfold Ideal.ieee
  simp
theorem FE_mid (E : ℕ) (h1 : 1 ≤ E) (h2 : E ≤ 254) : FE E = (((2:ℝ) ^ ((E:ℤ) - 127) : ℝ) : EReal) := by
  obtain ⟨e1, e2, e3⟩ := fields ⟨E, by omega⟩
  show Ideal.ieee 8 23 (BitVec.ofNat 32 E <<< 23) = _
  unfold Ideal.ieee
  simp only [e1, e2, e3]
  rw [if_neg (by norm_num; omega), if_neg (by omega)]
  refine congrArg Real.toEReal ?_
  have : ((E:ℤ) - (2 ^ (8 - 1) - 1) - ((23:ℕ):ℤ)) = ((E:ℤ) - 127) + (-23) := by norm_num; ring
  rw [this, zpow_add₀ (by norm_num)]
  norm_num
  ring
theorem FE_mono {E E' : ℕ} (h : E ≤ E') (h' : E' ≤ 255) : FE E ≤ FE E' := by
  rcases Nat.eq_or_lt_of_le h' with rfl | h'
  · rw [FE_top]; exact le_top
  rcases Nat.eq_zero_or_pos E' with rfl | hp'
  · rw [Nat.le_zero.mp h]
  rw [FE_mid E' hp' (by omega)]
  rcases Nat.eq_zero_or_pos E with rfl | hp
  · rw [FE_zero]; exact EReal.coe_nonneg.mpr (by positivity)
  rw [FE_mid E hp (by omega)]
  exact EReal.coe_le_coe_iff.mpr (zpow_le_zpow_right₀ (by norm_num) (by omega))

/-- The search, from a bound alone. -/
def STEPN (N : ℕ) (b t : BitVec 32) : BitVec 32 := if N < (t ||| b).toNat then t else t ||| b
def BITL : List (BitVec 32) := [128#32, 64#32, 32#32, 16#32, 8#32, 4#32, 2#32, 1#32]
theorem stepn_all : ∀ N : Fin 256, BITL.foldl (fun t b => STEPN N.val b t) 0#32 = BitVec.ofNat 32 N.val := by
  decide +kernel
theorem bits_all : BITL.all (fun b => b.toNat < 256) = true := by decide +kernel
theorem bits_lt : ∀ b ∈ BITL, b.toNat < 256 := fun b hb => of_decide_eq_true (List.all_eq_true.mp bits_all b hb)
theorem zero_lt : (0#32).toNat < 256 := by decide +kernel
theorem field_bits (v : EReal) : FIELD v = BITL.foldl (fun t b => STEP v b t) 0#32 := by
  unfold FIELD BITL
  exact Eq.refl _
theorem foldl_step (v : EReal) (N : ℕ) (hN : ∀ E, E < 256 → (FE E ≤ v ↔ E ≤ N)) (l : List (BitVec 32)) :
    (∀ b ∈ l, b.toNat < 256) → ∀ t : BitVec 32, t.toNat < 256 → l.foldl (fun t b => STEP v b t) t = l.foldl (fun t b => STEPN N b t) t := by
  induction l with
  | nil => intros; rfl
  | cons b l ih =>
    intro hl t ht
    have hb := hl b List.mem_cons_self
    have ho : (t ||| b).toNat < 256 := by
      rw [BitVec.toNat_or]; exact Nat.or_lt_two_pow (n := 8) ht hb
    have e : STEP v b t = STEPN N b t := by
      unfold STEP STEPN
      have := hN _ ho
      unfold FE at this
      rw [BitVec.ofNat_toNat, BitVec.setWidth_eq] at this
      by_cases hc : N < (t ||| b).toNat
      · rw [if_pos hc, if_pos (lt_of_not_ge fun h => absurd (this.mp h) (by omega))]
      · rw [if_neg hc, if_neg (not_lt_of_ge (this.mpr (by omega)))]
    simp only [List.foldl_cons]
    rw [e]
    refine ih (fun b hb => hl b (List.mem_cons_of_mem _ hb)) _ ?_
    unfold STEPN; split_ifs
    · exact ht
    · exact ho
theorem field_eq (v : EReal) (N : ℕ) (hN' : N < 256) (hN : ∀ E, E < 256 → (FE E ≤ v ↔ E ≤ N)) : FIELD v = BitVec.ofNat 32 N :=
  Eq.trans (field_bits v) (Eq.trans (foldl_step v N hN BITL bits_lt 0#32 zero_lt) (stepn_all (Fin.mk N hN')))

theorem exists_greatest (v : EReal) (K : ℕ) (h0 : FE 0 ≤ v) : ∃ N ≤ K, FE N ≤ v ∧ ∀ E ≤ K, FE E ≤ v → E ≤ N := by
  classical
  exact ⟨Nat.findGreatest (fun E => FE E ≤ v) K, Nat.findGreatest_le _, Nat.findGreatest_spec (P := fun E => FE E ≤ v) (Nat.zero_le K) h0,
    fun E hE h => Nat.le_findGreatest hE h⟩
/-- How many powers of two `2^-126 … 2^126` a value below `2^126` reaches. -/
theorem exists_count (v : EReal) (h0 : 0 ≤ v) (h1 : v < FE 253) : ∃ N ≤ 252, ∀ E, E < 256 → (FE E ≤ v ↔ E ≤ N) := by
  obtain ⟨N, hN, hs, hg⟩ := exists_greatest v 252 (by rw [FE_zero]; exact h0)
  refine ⟨N, hN, fun E hE => ⟨fun h => ?_, fun h => ?_⟩⟩
  · refine hg E ?_ h
    by_contra hc
    exact absurd (lt_of_lt_of_le h1 (FE_mono (show 253 ≤ E by omega) (by omega))) (not_lt_of_ge h)
  · exact (FE_mono h (by omega)).trans hs

theorem bv_scl : ∀ N : Fin 253, ((BitVec.ofNat 32 N.val - 126#32 + 127#32) = BitVec.ofNat 32 (N.val + 1)) ∧ (0#32 - (BitVec.ofNat 32 N.val - 126#32) + 127#32 = BitVec.ofNat 32 (253 - N.val)) := by
  decide +kernel

theorem coe_sum {ι : Type*} (s : Finset ι) (f : ι → ℝ) : ((∑ x ∈ s, f x : ℝ) : EReal) = ∑ x ∈ s, (f x : EReal) := by
  classical
  induction s using Finset.induction with
  | empty => simp
  | insert a s ha ih => rw [Finset.sum_insert ha, Finset.sum_insert ha, EReal.coe_add, ih]
theorem sum_count (N : ℕ) (hN : N ≤ 254) : (∑ x : Fin 254, if x.val + 1 ≤ N then (1 : EReal) else 0) = ((N : ℝ) : EReal) := by
  have h : (∑ x : Fin 254, if x.val + 1 ≤ N then (1 : ℝ) else 0) = (N : ℝ) := by
    rw [Finset.sum_boole]
    refine congrArg Nat.cast ?_
    rw [show (Finset.univ.filter fun x : Fin 254 => x.val + 1 ≤ N) = Finset.univ.filter (fun x : Fin 254 => x.val < N) from by
      ext x; simp only [Finset.mem_filter, Finset.mem_univ, true_and]; omega]
    rw [Fin.card_filter_val_lt]
    try omega
  rw [← h, coe_sum]
  refine Finset.sum_congr rfl fun x _ => ?_
  split_ifs <;> rfl

/-- The reference's exponent of a row: zero for a zero value, else the count less 126. -/
def REFE (a : EReal) (v : EReal) : EReal :=
  if a = 0 then 0 else (∑ x : Fin 254, if FE (x.val + 1) ≤ v then (1:EReal) else 0) - ((126:ℝ) : EReal)

theorem scale_eq (a v : EReal) (hav : a = 0 ↔ v = 0) (h0 : 0 ≤ v) (h1 : v < FE 253) :
    SCL v = Ideal.pow ((2:ℝ):EReal) (REFE a v) ∧ INV v = Ideal.pow ((2:ℝ):EReal) (-(REFE a v)) := by
  unfold SCL INV EXPO REFE
  by_cases hv : v = 0
  · rw [if_pos hv, if_pos (hav.mpr hv)]
    have e : FE 127 = ((1:ℝ):EReal) := by rw [FE_mid 127 (by norm_num) (by norm_num)]; norm_num
    refine ⟨(show _ = FE 127 from rfl).trans (e.trans ?_), (show _ = FE 127 from rfl).trans (e.trans ?_)⟩
    · rw [show (0:EReal) = ((0:ℝ):EReal) from rfl, Ideal.pow_coe_coe]; simp
    · rw [show (-0:EReal) = ((0:ℝ):EReal) from by simp, Ideal.pow_coe_coe]; simp
  · rw [if_neg hv, if_neg (fun h => hv (hav.mp h))]
    obtain ⟨N, hN, hc⟩ := exists_count v h0 h1
    rw [field_eq v N (by omega) hc, (bv_scl ⟨N, by omega⟩).1, (bv_scl ⟨N, by omega⟩).2]
    have es : (∑ x : Fin 254, if FE (x.val + 1) ≤ v then (1:EReal) else 0) = ((N:ℝ):EReal) := by
      rw [← sum_count N (by omega)]
      exact Finset.sum_congr rfl fun x _ => if_congr (hc _ (by omega)) rfl rfl
    rw [es, ← EReal.coe_sub, ← EReal.coe_neg, Ideal.pow_coe_coe, Ideal.pow_coe_coe]
    refine ⟨(FE_mid (N + 1) (by omega) (by omega)).trans (congrArg Real.toEReal ?_), (FE_mid (253 - N) (by omega) (by omega)).trans (congrArg Real.toEReal ?_)⟩
    · show _ = (2:ℝ) ^ ((N:ℝ) - 126)
      rw [← Real.rpow_intCast]; congr 1; push_cast; ring
    · show _ = (2:ℝ) ^ (-((N:ℝ) - 126))
      rw [← Real.rpow_intCast]; congr 1; push_cast [Nat.cast_sub (show N ≤ 253 by omega)]; ring

end Cert.KernelIdeal.Gen

end
-- ==== Proof.Value.Row.lean ====
module

public import proofs.«01_k».proof.Proof.Value.Search

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  A block's values, row by row: plain sums and maxima over the row's 4096 columns.
-/
def rG (dy ga : Fin 4096 → EReal) (k : Fin 4096) : EReal := dy k * ga k
def rXH (x : Fin 4096 → EReal) (mu r : EReal) (k : Fin 4096) : EReal := (x k - mu) * r
def rMEAN (f : Fin 4096 → EReal) : EReal := (∑ k, f k) * Ideal.ofBits .f32 0x39800000#32
def rZ (x dy ga : Fin 4096 → EReal) (mu r : EReal) (k : Fin 4096) : EReal :=
  (rG dy ga k - rMEAN (rG dy ga)) - rXH x mu r k * rMEAN (fun k => rG dy ga k * rXH x mu r k)
/-- The row's greatest `|r · z|`. -/
def rA (x dy ga : Fin 4096 → EReal) (mu r : EReal) : EReal :=
  Finset.univ.fold max (Ideal.ofBits .f32 0xFF800000#32) fun k => max (r * rZ x dy ga mu r k) (-(r * rZ x dy ga mu r k))
def rV (x dy ga : Fin 4096 → EReal) (mu r : EReal) : EReal := rA x dy ga mu r * Ideal.ofBits .f32 0x37924925#32

theorem sumc_eq (g : Fin 32 → EReal) : SUMC g = ∑ c, g c := by
  unfold SUMC
  rw [Ideal.ofBits_zero_f32, ← List.sum_ofFn, List.sum_eq_foldl]
/-- The lane sums of the chunks' sums are the sum over the row. -/
theorem lanes_sum (f : Fin 4096 → EReal) :
    (∑ l : Fin 128, ∑ c : Fin 32, f ⟨128 * c.val + l.val, lane_lt c l⟩) = ∑ k, f k := by
  rw [Fin.sum_univ_tiles 32 128 rfl f, Finset.sum_comm]
  refine Finset.sum_congr rfl fun c _ => Finset.sum_congr rfl fun l _ => congrArg f (Fin.ext ?_)
  show 128 * c.val + l.val = c.val * 128 + l.val
  omega

theorem bot_bits : Ideal.ofBits .f32 0xFF800000#32 = ⊥ := by
  simp [Ideal.ofBits, Ideal.ieee]
theorem foldl_max_le (l : List EReal) (b u : EReal) : l.foldl max b ≤ u ↔ b ≤ u ∧ ∀ x ∈ l, x ≤ u := by
  induction l generalizing b with
  | nil => simp
  | cons a l ih => rw [List.foldl_cons, ih, max_le_iff]; simp [and_assoc]
theorem maxz_le (f : Fin 32 → EReal) (u : EReal) : MAXZ f ≤ u ↔ 0 ≤ u ∧ ∀ c, max (f c) (-(f c)) ≤ u := by
  unfold MAXZ
  rw [Ideal.ofBits_zero_f32, foldl_max_le]
  simp only [List.mem_ofFn, forall_exists_index, forall_apply_eq_imp_iff]
theorem abs_nonneg' (z : EReal) : 0 ≤ max z (-z) := by
  rcases le_total 0 z with h | h
  · exact h.trans (le_max_left _ _)
  · exact (EReal.neg_nonneg.mpr h).trans (le_max_right _ _)
theorem abs_mul' (r z : EReal) : max (r * z) (-(r * z)) = max r (-r) * max z (-z) := by
  have h : ∀ z : EReal, max z (-z) = ((z.abs : ENNReal) : EReal) := fun z => by
    induction z with
    | bot => simp
    | top => simp
    | coe z => rw [EReal.abs_def, ← EReal.coe_neg, ← EReal.coe_strictMono.monotone.map_max, ← abs_eq_max_neg]; simp
  rw [h, h, h, EReal.abs_mul, EReal.coe_ennreal_mul]
/-- `|r|` times the greatest `|z|` is the greatest `|r · z|`. -/
theorem max_mul (r M : EReal) (z : Fin 4096 → EReal) (hM : ∀ u, M ≤ u ↔ 0 ≤ u ∧ ∀ k, max (z k) (-(z k)) ≤ u) :
    max r (-r) * M = Finset.univ.fold max (Ideal.ofBits .f32 0xFF800000#32) fun k => max (r * z k) (-(r * z k)) := by
  obtain ⟨k0, -, hk⟩ := Finset.exists_max_image (Finset.univ : Finset (Fin 4096)) (fun k => max (z k) (-(z k))) ⟨0, Finset.mem_univ _⟩
  have e : M = max (z k0) (-(z k0)) := le_antisymm ((hM _).mpr ⟨abs_nonneg' _, fun k => hk k (Finset.mem_univ k)⟩) (((hM M).mp le_rfl).2 k0)
  rw [e, ← abs_mul', bot_bits]
  refine le_antisymm ?_ ?_
  · exact (Finset.le_fold_max _).mpr (Or.inr ⟨k0, Finset.mem_univ _, le_rfl⟩)
  · refine (Finset.fold_max_le _).mpr ⟨bot_le, fun k _ => ?_⟩
    rw [abs_mul', abs_mul']
    exact mul_le_mul_of_nonneg_left (hk k (Finset.mem_univ k)) (abs_nonneg' r)

theorem bmg_eq (x2 : S256x4096.Idx → EReal) (x3 : S1x4096.Idx → EReal) (q : Fin 256) :
    BMG x2 x3 q = rMEAN (rG (fun k => x2 (ix2 q k)) (fun k => x3 (ix2 0 k))) := by
  unfold BMG MEANR rMEAN S1E
  simp only [sumc_eq]
  exact congrArg (· * Ideal.ofBits .f32 0x39800000#32) (lanes_sum (rG (fun k => x2 (ix2 q k)) (fun k => x3 (ix2 0 k))))
theorem bmgx_eq (x1 x2 : S256x4096.Idx → EReal) (x3 : S1x4096.Idx → EReal) (x4 x5 : S1x2x128.Idx → EReal) (q : Fin 256) :
    BMGX x1 x2 x3 x4 x5 q = rMEAN (fun k => rG (fun k => x2 (ix2 q k)) (fun k => x3 (ix2 0 k)) k * rXH (fun k => x1 (ix2 q k)) (ROWOF x4 q) (ROWOF x5 q) k) := by
  unfold BMGX MEANR rMEAN S2E
  simp only [sumc_eq]
  exact congrArg (· * Ideal.ofBits .f32 0x39800000#32) (lanes_sum (fun k => rG (fun k => x2 (ix2 q k)) (fun k => x3 (ix2 0 k)) k * rXH (fun k => x1 (ix2 q k)) (ROWOF x4 q) (ROWOF x5 q) k))
theorem bz_eq (x1 x2 : S256x4096.Idx → EReal) (x3 : S1x4096.Idx → EReal) (x4 x5 : S1x2x128.Idx → EReal) (q : Fin 256) (k : Fin 4096) :
    BZ x1 x2 x3 x4 x5 (ix2 q k) = rZ (fun k => x1 (ix2 q k)) (fun k => x2 (ix2 q k)) (fun k => x3 (ix2 0 k)) (ROWOF x4 q) (ROWOF x5 q) k := by
  unfold BZ ZE rZ
  rw [show (ix2 q k : S256x4096.Idx) 0 = q from rfl, bmg_eq, bmgx_eq]
  rfl
theorem bm_eq (x1 x2 : S256x4096.Idx → EReal) (x3 : S1x4096.Idx → EReal) (x4 x5 : S1x2x128.Idx → EReal) (q : Fin 256) (l : Fin 128) :
    BM x1 x2 x3 x4 x5 (ix2 q l) = MAXZ fun c : Fin 32 => rZ (fun k => x1 (ix2 q k)) (fun k => x2 (ix2 q k)) (fun k => x3 (ix2 0 k)) (ROWOF x4 q) (ROWOF x5 q) ⟨128 * c.val + l.val, lane_lt c l⟩ := by
  simp only [← bz_eq]
  unfold BM MZE BZ
  rfl
theorem bv_eq (x1 x2 : S256x4096.Idx → EReal) (x3 : S1x4096.Idx → EReal) (x4 x5 : S1x2x128.Idx → EReal) (q : Fin 256) : BV x1 x2 x3 x4 x5 q = rV (fun k => x1 (ix2 q k)) (fun k => x2 (ix2 q k)) (fun k => x3 (ix2 0 k)) (ROWOF x4 q) (ROWOF x5 q) := by
  unfold BV VAL rV rA
  refine congrArg (· * Ideal.ofBits .f32 0x37924925#32) (max_mul (ROWOF x5 q) _ (rZ (fun k => x1 (ix2 q k)) (fun k => x2 (ix2 q k)) (fun k => x3 (ix2 0 k)) (ROWOF x4 q) (ROWOF x5 q)) fun u => ?_)
  rw [bot_bits, Finset.fold_max_le]
  have hb : ∀ l : Fin 128, BM x1 x2 x3 x4 x5 (ix2 q l) ≤ u ↔ 0 ≤ u ∧ ∀ c : Fin 32, max (rZ (fun k => x1 (ix2 q k)) (fun k => x2 (ix2 q k)) (fun k => x3 (ix2 0 k)) (ROWOF x4 q) (ROWOF x5 q) ⟨128 * c.val + l.val, lane_lt c l⟩) (-(rZ (fun k => x1 (ix2 q k)) (fun k => x2 (ix2 q k)) (fun k => x3 (ix2 0 k)) (ROWOF x4 q) (ROWOF x5 q) ⟨128 * c.val + l.val, lane_lt c l⟩)) ≤ u := fun l => by
    rw [bm_eq]
    exact maxz_le _ u
  simp only [hb]
  constructor
  · rintro ⟨-, h⟩
    refine ⟨(h 0 (Finset.mem_univ _)).1, fun k => ?_⟩
    have := (h ⟨k.val % 128, Nat.mod_lt _ (by norm_num)⟩ (Finset.mem_univ _)).2 ⟨k.val / 128, by omega⟩
    rwa [show (⟨128 * (k.val / 128) + k.val % 128, lane_lt ⟨k.val / 128, by omega⟩ ⟨k.val % 128, Nat.mod_lt _ (by norm_num)⟩⟩ : Fin 4096) = k from Fin.ext (Nat.div_add_mod _ _)] at this
  · rintro ⟨h0, h⟩
    exact ⟨bot_le, fun l _ => ⟨h0, fun c => h _⟩⟩
/-- The codes and the scales of a block, by rows. -/
def rCODE (x dy ga : Fin 4096 → EReal) (mu r : EReal) (k : Fin 4096) : EReal := CODE (rZ x dy ga mu r k) (r * INV (rV x dy ga mu r))
theorem out8_eq (x1 x2 : S256x4096.Idx → EReal) (x3 : S1x4096.Idx → EReal) (x4 x5 : S1x2x128.Idx → EReal) (q : Fin 256) (k : Fin 4096) : OUT8 x1 x2 x3 x4 x5 (ix2 q k) = rCODE (fun k => x1 (ix2 q k)) (fun k => x2 (ix2 q k)) (fun k => x3 (ix2 0 k)) (ROWOF x4 q) (ROWOF x5 q) k := by
  unfold OUT8 rCODE
  rw [bz_eq, show (ix2 q k : S256x4096.Idx) 0 = q from rfl]
  unfold BSC
  rw [bv_eq]
theorem out9_eq (x1 x2 : S256x4096.Idx → EReal) (x3 : S1x4096.Idx → EReal) (x4 x5 : S1x2x128.Idx → EReal) (y : S1x2x128.Idx) (q : Fin 256) (hq : q.val = 128 * (y 1).val + (y 2).val) : OUT9 x1 x2 x3 x4 x5 y = SCL (rV (fun k => x1 (ix2 q k)) (fun k => x2 (ix2 q k)) (fun k => x3 (ix2 0 k)) (ROWOF x4 q) (ROWOF x5 q)) := by
  unfold OUT9
  rw [bv_eq]
  generalize_proofs hlt
  have e : (⟨128 * (y 1).val + (y 2).val, hlt⟩ : Fin 256) = q := Fin.ext hq.symm
  rw [e]

end Cert.KernelIdeal.Gen

end
-- ==== Proof.Value.Arr.lean ====
module

public import proofs.«01_k».proof.Proof.Value.Frame
public import proofs.«01_k».proof.Proof.Value.Row
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  Each block read off the arguments: row `r` of block `t` is row `256 t + r`.
-/
variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0]
    ∧ win0_3.index t = ![t.val, 0, 0] ∧ win0_4.index t = ![t.val, 0, 0] ∧ win0_7.index t = ![t.val, 0] ∧ win0_8.index t = ![t.val, 0, 0] :=
  (by decide +kernel : ∀ t : Fin grid0.N, _)
theorem point_lt (t : Fin cfg0.N) : t.val < 120 := lt_of_lt_of_eq t.isLt (show cfg0.N = 120 from N_0)
/-- The batch entry and the sequence position of row `n`. -/
def rowB (n : ℕ) (h : n < 30720) : Fin 30 := ⟨n / 1024, by omega⟩
def rowS (n : ℕ) : Fin 1024 := ⟨n % 1024, Nat.mod_lt _ (by norm_num)⟩
theorem grow_lt (t : Fin cfg0.N) (r : Fin 256) : 256 * t.val + r.val < 30720 := by have := point_lt t; omega
theorem entry0 (c : Dev nD) : (V m c main_v0 : S30720x4096.Idx → EReal) = shapeCast S30720x4096 (m ((c.tc : Thread nD τ).loc main_arg0) : S30x1024x4096.Idx → EReal) shapeCasts_S30x1024x4096_S30720x4096 := by
  show StableHlo.after [hostOps0].flatten (fun b => m (c, b)) (Proc.tc.devRef main_v0) = _
  simp only [hostOps0, List.flatten_cons, List.flatten_nil, List.append_nil]
  after_results
  try rfl
theorem entry1 (c : Dev nD) : (V m c main_v1 : S30720x4096.Idx → EReal) = shapeCast S30720x4096 (m ((c.tc : Thread nD τ).loc main_arg1) : S30x1024x4096.Idx → EReal) shapeCasts_S30x1024x4096_S30720x4096 := by
  show StableHlo.after [hostOps0].flatten (fun b => m (c, b)) (Proc.tc.devRef main_v1) = _
  simp only [hostOps0, List.flatten_cons, List.flatten_nil, List.append_nil]
  after_results
  try rfl
theorem entry2 (c : Dev nD) : (V m c main_v2 : S1x4096.Idx → EReal) = shapeCast S1x4096 (m ((c.tc : Thread nD τ).loc main_arg2) : S4096.Idx → EReal) shapeCasts_S4096_S1x4096 := by
  show StableHlo.after [hostOps0].flatten (fun b => m (c, b)) (Proc.tc.devRef main_v2) = _
  simp only [hostOps0, List.flatten_cons, List.flatten_nil, List.append_nil]
  after_results
  try rfl
theorem entry3 (c : Dev nD) : (V m c main_v3 : S120x2x128.Idx → EReal) = shapeCast S120x2x128 (m ((c.tc : Thread nD τ).loc main_arg3) : S30x1024.Idx → EReal) shapeCasts_S30x1024_S120x2x128 := by
  show StableHlo.after [hostOps0].flatten (fun b => m (c, b)) (Proc.tc.devRef main_v3) = _
  simp only [hostOps0, List.flatten_cons, List.flatten_nil, List.append_nil]
  after_results
  try rfl
theorem entry4 (c : Dev nD) : (V m c main_v4 : S120x2x128.Idx → EReal) = shapeCast S120x2x128 (m ((c.tc : Thread nD τ).loc main_arg4) : S30x1024.Idx → EReal) shapeCasts_S30x1024_S120x2x128 := by
  show StableHlo.after [hostOps0].flatten (fun b => m (c, b)) (Proc.tc.devRef main_v4) = _
  simp only [hostOps0, List.flatten_cons, List.flatten_nil, List.append_nil]
  after_results
  try rfl
theorem cast_rows (x : S30x1024x4096.Idx → EReal) (n : Fin 30720) (k : Fin 4096) :
    shapeCast S30720x4096 x shapeCasts_S30x1024x4096_S30720x4096 (ix2 n k) = x (ix3 (rowB n.val n.isLt) (rowS n.val) k) := by
  pointwise
  blk_ext [rowB, rowS]
theorem cast_vec (x : S4096.Idx → EReal) (k : Fin 4096) :
    shapeCast S1x4096 x shapeCasts_S4096_S1x4096 (ix2 0 k) = x (ix1 k) := by
  pointwise
theorem cast_stat (x : S30x1024.Idx → EReal) (t : Fin 120) (u : Fin 2) (l : Fin 128) (h : 256 * t.val + (128 * u.val + l.val) < 30720) :
    shapeCast S120x2x128 x shapeCasts_S30x1024_S120x2x128 (ix3 t u l) = x (ix2 (rowB (256 * t.val + (128 * u.val + l.val)) h) (rowS (256 * t.val + (128 * u.val + l.val)))) := by
  pointwise
  blk_ext [rowB, rowS]
theorem read0 (c : Dev nD) (t : Fin cfg0.N) (r : Fin 256) (k : Fin 4096) :
    (iblk m c 0 t (ix2 r k) : EReal) = m ((c.tc : Thread nD τ).loc main_arg0) (ix3 (rowB (256 * t.val + r.val) (grow_lt t r)) (rowS (256 * t.val + r.val)) k) := by
  have := point_lt t
  blk_simp [iblk]
  rw [entry0]
  refine (congrArg _ ?_).trans (cast_rows _ ⟨256 * t.val + r.val, grow_lt t r⟩ k)
  blk_ext [idx t]
theorem read1 (c : Dev nD) (t : Fin cfg0.N) (r : Fin 256) (k : Fin 4096) :
    (iblk m c 1 t (ix2 r k) : EReal) = m ((c.tc : Thread nD τ).loc main_arg1) (ix3 (rowB (256 * t.val + r.val) (grow_lt t r)) (rowS (256 * t.val + r.val)) k) := by
  have := point_lt t
  blk_simp [iblk]
  rw [entry1]
  refine (congrArg _ ?_).trans (cast_rows _ ⟨256 * t.val + r.val, grow_lt t r⟩ k)
  blk_ext [idx t]
theorem read2 (c : Dev nD) (t : Fin cfg0.N) (k : Fin 4096) :
    (iblk m c 2 t (ix2 0 k) : EReal) = m ((c.tc : Thread nD τ).loc main_arg2) (ix1 k) := by
  have := point_lt t
  blk_simp [iblk]
  rw [entry2]
  refine (congrArg _ ?_).trans (cast_vec _ k)
  blk_ext [idx t]
theorem read3 (c : Dev nD) (t : Fin cfg0.N) (r : Fin 256) :
    (ROWOF (iblk m c 3 t) r : EReal) = m ((c.tc : Thread nD τ).loc main_arg3) (ix2 (rowB (256 * t.val + r.val) (grow_lt t r)) (rowS (256 * t.val + r.val))) := by
  have := point_lt t
  have e : 256 * t.val + (128 * (r.val / 128) + r.val % 128) = 256 * t.val + r.val := by omega
  unfold ROWOF
  blk_simp [iblk]
  rw [entry3]
  refine (congrArg _ ?_).trans ((cast_stat _ ⟨t.val, point_lt t⟩ ⟨r.val / 128, by omega⟩ ⟨r.val % 128, by omega⟩ (by have := grow_lt t r; rw [e]; exact this)).trans ?_)
  · blk_ext [idx t]
  · simp only [e]
theorem read4 (c : Dev nD) (t : Fin cfg0.N) (r : Fin 256) :
    (ROWOF (iblk m c 4 t) r : EReal) = m ((c.tc : Thread nD τ).loc main_arg4) (ix2 (rowB (256 * t.val + r.val) (grow_lt t r)) (rowS (256 * t.val + r.val))) := by
  have := point_lt t
  have e : 256 * t.val + (128 * (r.val / 128) + r.val % 128) = 256 * t.val + r.val := by omega
  unfold ROWOF
  blk_simp [iblk]
  rw [entry4]
  refine (congrArg _ ?_).trans ((cast_stat _ ⟨t.val, point_lt t⟩ ⟨r.val / 128, by omega⟩ ⟨r.val % 128, by omega⟩ (by have := grow_lt t r; rw [e]; exact this)).trans ?_)
  · blk_ext [idx t]
  · simp only [e]

end Cert.KernelIdeal.Gen

end
-- ==== Proof.Value.Out.lean ====
module

public import proofs.«01_k».proof.Proof.Value.Arr

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The result arrays: block by block, then reshaped, as functions of the arguments.
-/
variable (m : (ℓ : Loc nD τ sig) → Buf (Elt Ideal) ℓ) (ρ : Dev nD → PrngReg)

/-- The codes of row `(b, s)`, and the greatest `|dx|` of it over 57344. -/
def KCODE (c : Dev nD) (b : Fin 30) (s : Fin 1024) (k : Fin 4096) : EReal := rCODE (fun k => m ((c.tc : Thread nD τ).loc main_arg0) (ix3 b s k)) (fun k => m ((c.tc : Thread nD τ).loc main_arg1) (ix3 b s k)) (fun k => m ((c.tc : Thread nD τ).loc main_arg2) (ix1 k)) (m ((c.tc : Thread nD τ).loc main_arg3) (ix2 b s)) (m ((c.tc : Thread nD τ).loc main_arg4) (ix2 b s)) k
def KV (c : Dev nD) (b : Fin 30) (s : Fin 1024) : EReal := rV (fun k => m ((c.tc : Thread nD τ).loc main_arg0) (ix3 b s k)) (fun k => m ((c.tc : Thread nD τ).loc main_arg1) (ix3 b s k)) (fun k => m ((c.tc : Thread nD τ).loc main_arg2) (ix1 k)) (m ((c.tc : Thread nD τ).loc main_arg3) (ix2 b s)) (m ((c.tc : Thread nD τ).loc main_arg4) (ix2 b s))

theorem out8_row (c : Dev nD) (t : Fin cfg0.N) (q : Fin 256) (k : Fin 4096) :
    OUT8 (iblk m c 0 t) (iblk m c 1 t) (iblk m c 2 t) (iblk m c 3 t) (iblk m c 4 t) (ix2 q k) = KCODE m c (rowB (256 * t.val + q.val) (grow_lt t q)) (rowS (256 * t.val + q.val)) k := by
  rw [out8_eq]
  unfold KCODE
  rw [read3, read4]
  simp only [read0, read1, read2]
theorem out9_row (c : Dev nD) (t : Fin cfg0.N) (y : S1x2x128.Idx) (q : Fin 256) (hq : q.val = 128 * (y 1).val + (y 2).val) :
    OUT9 (iblk m c 0 t) (iblk m c 1 t) (iblk m c 2 t) (iblk m c 3 t) (iblk m c 4 t) y = SCL (KV m c (rowB (256 * t.val + q.val) (grow_lt t q)) (rowS (256 * t.val + q.val))) := by
  rw [out9_eq _ _ _ _ _ y q hq]
  unfold KV
  rw [read3, read4]
  simp only [read0, read1, read2]

/-- The codes as the pipeline writes them: row `n` of the flattened array. -/
def ARR7 (c : Dev nD) (j : S30720x4096.Idx) : EReal := KCODE m c (rowB (j 0).val (j 0).isLt) (rowS (j 0).val) (j 1)
theorem stat_lt (t : Fin 120) (u : Fin 2) (l : Fin 128) : 256 * t.val + (128 * u.val + l.val) < 30720 := by omega
def ARR8 (c : Dev nD) (j : S120x2x128.Idx) : EReal :=
  SCL (KV m c (rowB (256 * (j 0).val + (128 * (j 1).val + (j 2).val)) (stat_lt (j 0) (j 1) (j 2))) (rowS (256 * (j 0).val + (128 * (j 1).val + (j 2).val))))

theorem kcode_congr (c : Dev nD) (n n' : ℕ) (h : n < 30720) (h' : n' < 30720) (k k' : Fin 4096) (e : n = n') (ek : k = k') :
    KCODE m c (rowB n h) (rowS n) k = KCODE m c (rowB n' h') (rowS n') k' := by subst e ek; rfl
theorem kv_congr (c : Dev nD) (n n' : ℕ) (h : n < 30720) (h' : n' < 30720) (e : n = n') :
    SCL (KV m c (rowB n h) (rowS n)) = SCL (KV m c (rowB n' h') (rowS n')) := by subst e; rfl
theorem arr7 (c : Dev nD) : ((vdats m 0 c).arrAt 7 (cfgs 0).N : S30720x4096.Idx → EReal) = ARR7 m c := by
  refine (vdats m 0 c).arrAt_eq_of_covers 7 _ (by decide +kernel) fun t _ y => ?_
  have := point_lt t
  blk_simp
  rw [vafter7]
  obtain ⟨q, k, rfl⟩ : ∃ (q : Fin 256) (k : Fin 4096), y = ix2 q k := ⟨y 0, y 1, by funext a; match a with | ⟨0, _⟩ => rfl | ⟨1, _⟩ => rfl⟩
  refine (out8_row m c t q k).trans ?_
  unfold ARR7
  refine kcode_congr m c _ _ _ _ _ _ ?_ ?_
  · blk_simp [idx t]; try omega
  · refine Fin.ext ?_
    blk_simp [idx t]
theorem arr8 (c : Dev nD) : ((vdats m 0 c).arrAt 8 (cfgs 0).N : S120x2x128.Idx → EReal) = ARR8 m c := by
  refine (vdats m 0 c).arrAt_eq_of_covers 8 _ (by decide +kernel) fun t _ y => ?_
  have := point_lt t
  blk_simp
  rw [vafter8]
  have h0 : (y 0).val < 1 := (y 0).isLt
  have h1 : (y 1).val < 2 := (y 1).isLt
  have h2 : (y 2).val < 128 := (y 2).isLt
  refine (out9_row m c t y ⟨128 * (y 1).val + (y 2).val, by omega⟩ rfl).trans ?_
  unfold ARR8
  refine kv_congr m c _ _ _ _ ?_
  blk_simp [idx t]
  try omega
theorem last_lt : 119 < cfg0.N := lt_of_lt_of_eq (by norm_num) (show 120 = cfg0.N from N_0.symm)
theorem arr5 (c : Dev nD) : ((vdats m 0 c).arrAt 5 (cfgs 0).N : S1x4096.Idx → EReal) = SUM8 (acc17 m c 120) := by
  have hW : (cfg0.win 5).WholeAt ⟨119, last_lt⟩ := by decide +kernel
  obtain ⟨t0, ht⟩ : ∃ t0 : Fin cfg0.N, t0 = ⟨119, last_lt⟩ := ⟨_, rfl⟩
  rw [← ht] at hW
  have hv : t0.val + 1 = 120 := by rw [ht]
  refine (vdats m 0 c).arrAt_eq_of_after_last 5 t0 hW _ fun j => ?_
  blk_simp
  rw [vafter5, hv]
  try rfl
theorem arr6 (c : Dev nD) : ((vdats m 0 c).arrAt 6 (cfgs 0).N : S1x4096.Idx → EReal) = SUM8 (acc18 m c 120) := by
  have hW : (cfg0.win 6).WholeAt ⟨119, last_lt⟩ := by decide +kernel
  obtain ⟨t0, ht⟩ : ∃ t0 : Fin cfg0.N, t0 = ⟨119, last_lt⟩ := ⟨_, rfl⟩
  rw [← ht] at hW
  have hv : t0.val + 1 = 120 := by rw [ht]
  refine (vdats m 0 c).arrAt_eq_of_after_last 6 t0 hW _ fun j => ?_
  blk_simp
  rw [vafter6, hv]
  try rfl

theorem tile_sum (F : ℕ → EReal) (J T N : ℕ) (h : J * T = N) (a : ℕ) : (∑ q : Fin J, ∑ s : Fin T, F (a + (T * q.val + s.val))) = ∑ r : Fin N, F (a + r.val) := by
  rw [Fin.sum_univ_tiles J T h (fun r : Fin N => F (a + r.val))]
  refine Finset.sum_congr rfl fun q _ => Finset.sum_congr rfl fun s _ => congrArg F ?_
  show a + (T * q.val + s.val) = a + (q.val * T + s.val)
  rw [Nat.mul_comm]
/-- The accumulators' order of the rows is the rows in order. -/
theorem reblock (F : ℕ → EReal) :
    (∑ s : Fin 8, ∑ u ∈ Finset.range 120, ∑ j ∈ Finset.range 8, ∑ q : Fin 4, F (256 * u + (32 * j + (8 * q.val + s.val))))
      = ∑ b : Fin 30, ∑ s : Fin 1024, F (1024 * b.val + s.val) := by
  have h1 := tile_sum F 30 1024 30720 rfl 0
  have h2 := tile_sum F 120 256 30720 rfl 0
  simp only [Nat.zero_add] at h1 h2
  rw [h1, ← h2, Finset.sum_comm, Finset.sum_range]
  refine Finset.sum_congr rfl fun u _ => ?_
  rw [← tile_sum F 8 32 256 rfl, Finset.sum_comm, Finset.sum_range]
  refine Finset.sum_congr rfl fun j _ => ?_
  have h3 := tile_sum F 4 8 32 rfl (256 * u.val + 32 * j.val)
  simp only [Nat.add_assoc] at h3
  rw [h3.symm, Finset.sum_comm]

def RF (g : Fin 30 → Fin 1024 → EReal) (n : ℕ) : EReal := if h : n < 30720 then g (rowB n h) (rowS n) else 0
theorem rf_at (g : Fin 30 → Fin 1024 → EReal) (b : Fin 30) (s : Fin 1024) : RF g (1024 * b.val + s.val) = g b s := by
  unfold RF
  rw [dif_pos (by omega)]
  refine congrArg₂ g (Fin.ext ?_) (Fin.ext ?_)
  · show (1024 * b.val + s.val) / 1024 = b.val; omega
  · show (1024 * b.val + s.val) % 1024 = s.val; omega

theorem rowN_val (n : ℕ) (h : n < 256) : (rowN n).val = n := Nat.mod_eq_of_lt h
/-- What row `(b, s)` gives column `k` of `dgamma`. -/
def DGROW (a0 a1 : S30x1024x4096.Idx → EReal) (a3 a4 : S30x1024.Idx → EReal) (k : Fin 4096) (b : Fin 30) (s : Fin 1024) : EReal :=
  a1 (ix3 b s k) * ((a0 (ix3 b s k) - a3 (ix2 b s)) * a4 (ix2 b s))
def DBROW (a1 : S30x1024x4096.Idx → EReal) (k : Fin 4096) (b : Fin 30) (s : Fin 1024) : EReal := a1 (ix3 b s k)
def DGE (B0 B1 : S256x4096.Idx → EReal) (mu r : Fin 256 → EReal) (n : Fin 256) (k : Fin 4096) : EReal := B1 (ix2 n k) * ((B0 (ix2 n k) - mu n) * r n)
theorem sum17 (c : Dev nD) (k : Fin 4096) : SUM8 (acc17 m c 120) (ix2 0 k)
    = ∑ b : Fin 30, ∑ s : Fin 1024, DGROW (m ((c.tc : Thread nD τ).loc main_arg0)) (m ((c.tc : Thread nD τ).loc main_arg1)) (m ((c.tc : Thread nD τ).loc main_arg3)) (m ((c.tc : Thread nD τ).loc main_arg4)) k b s := by
  have h := reblock (RF (DGROW (m ((c.tc : Thread nD τ).loc main_arg0)) (m ((c.tc : Thread nD τ).loc main_arg1)) (m ((c.tc : Thread nD τ).loc main_arg3)) (m ((c.tc : Thread nD τ).loc main_arg4)) k))
  simp only [rf_at] at h
  rw [← h]
  unfold SUM8 acc17
  refine Finset.sum_congr rfl fun s _ => Finset.sum_congr rfl fun u hu => ?_
  have hu' : u < 120 := Finset.mem_range.mp hu
  have hN : u < cfg0.N := lt_of_lt_of_eq hu' (show 120 = cfg0.N from N_0.symm)
  rw [dif_pos hN]
  refine Finset.sum_congr rfl fun j hj => ?_
  have hj' : j < 8 := Finset.mem_range.mp hj
  unfold DGT XHE
  refine Finset.sum_congr rfl fun q _ => ?_
  have hn : 32 * j + (8 * q.val + s.val) < 256 := by omega
  have hr := rowN_val _ hn
  show DGE (iblk m c 0 ⟨u, hN⟩) (iblk m c 1 ⟨u, hN⟩) (ROWOF (iblk m c 3 ⟨u, hN⟩)) (ROWOF (iblk m c 4 ⟨u, hN⟩)) (rowN (32 * j + (8 * q.val + s.val))) k = _
  unfold DGE
  rw [read3, read4, read0, read1]
  unfold RF DGROW
  rw [dif_pos (by omega)]
  simp only [hr]
theorem sum18 (c : Dev nD) (k : Fin 4096) : SUM8 (acc18 m c 120) (ix2 0 k) = ∑ b : Fin 30, ∑ s : Fin 1024, DBROW (m ((c.tc : Thread nD τ).loc main_arg1)) k b s := by
  have h := reblock (RF (DBROW (m ((c.tc : Thread nD τ).loc main_arg1)) k))
  simp only [rf_at] at h
  rw [← h]
  unfold SUM8 acc18
  refine Finset.sum_congr rfl fun s _ => Finset.sum_congr rfl fun u hu => ?_
  have hu' : u < 120 := Finset.mem_range.mp hu
  have hN : u < cfg0.N := lt_of_lt_of_eq hu' (show 120 = cfg0.N from N_0.symm)
  rw [dif_pos hN]
  refine Finset.sum_congr rfl fun j hj => ?_
  have hj' : j < 8 := Finset.mem_range.mp hj
  unfold DBT
  refine Finset.sum_congr rfl fun q _ => ?_
  have hn : 32 * j + (8 * q.val + s.val) < 256 := by omega
  have hr := rowN_val _ hn
  show (iblk m c 1 ⟨u, hN⟩ (ix2 (rowN (32 * j + (8 * q.val + s.val))) k) : EReal) = _
  rw [read1]
  unfold RF DBROW
  rw [dif_pos (by omega)]
  simp only [hr]

end Cert.KernelIdeal.Gen

end
-- ==== Proof.Value.End.lean ====
module

public import proofs.«01_k».proof.Proof.Value.Out

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The four results after the run.
-/
variable (m : (ℓ : Loc nD τ sig) → Buf (Elt Ideal) ℓ) (ρ : Dev nD → PrngReg)
theorem tail6 (w : Valuation τ sig (Elt Ideal)) : (StableHlo.after [hostOps1].flatten w (Proc.tc.devRef main_v6) : S4096.Idx → EReal)
    = shapeCast S4096 (w (Proc.tc.devRef main_v5_0) : S1x4096.Idx → EReal) shapeCasts_S1x4096_S4096 := by
  simp only [hostOps1, List.flatten_cons, List.flatten_nil, List.append_nil]
  after_results
  try rfl
theorem end6 (c : Dev nD) : (Pipeline.afterTail₀ cfgs (vdats m) 0 (V0 m) [hostOps1] c main_v6 : S4096.Idx → EReal) = shapeCast S4096 (SUM8 (acc17 m c 120)) shapeCasts_S1x4096_S4096 := by
  unfold Pipeline.afterTail₀
  refine (tail6 _).trans ?_
  rw [← arr5]
  refine congrArg (fun x : S1x4096.Idx → EReal => shapeCast S4096 x shapeCasts_S1x4096_S4096) ?_
  exact Pipeline.withArrays_arr spec0 (by decide) c (V0 m c) (fun w => (vdats m 0 c).arrAt w (cfgs 0).N) 5
theorem tail7 (w : Valuation τ sig (Elt Ideal)) : (StableHlo.after [hostOps1].flatten w (Proc.tc.devRef main_v7) : S4096.Idx → EReal)
    = shapeCast S4096 (w (Proc.tc.devRef main_v5_1) : S1x4096.Idx → EReal) shapeCasts_S1x4096_S4096 := by
  simp only [hostOps1, List.flatten_cons, List.flatten_nil, List.append_nil]
  after_results
  try rfl
theorem end7 (c : Dev nD) : (Pipeline.afterTail₀ cfgs (vdats m) 0 (V0 m) [hostOps1] c main_v7 : S4096.Idx → EReal) = shapeCast S4096 (SUM8 (acc18 m c 120)) shapeCasts_S1x4096_S4096 := by
  unfold Pipeline.afterTail₀
  refine (tail7 _).trans ?_
  rw [← arr6]
  refine congrArg (fun x : S1x4096.Idx → EReal => shapeCast S4096 x shapeCasts_S1x4096_S4096) ?_
  exact Pipeline.withArrays_arr spec0 (by decide) c (V0 m c) (fun w => (vdats m 0 c).arrAt w (cfgs 0).N) 6
theorem tail8 (w : Valuation τ sig (Elt Ideal)) : (StableHlo.after [hostOps1].flatten w (Proc.tc.devRef main_v8) : S30x1024x4096.Idx → EReal)
    = shapeCast S30x1024x4096 (w (Proc.tc.devRef main_v5_2) : S30720x4096.Idx → EReal) shapeCasts_S30720x4096_S30x1024x4096 := by
  simp only [hostOps1, List.flatten_cons, List.flatten_nil, List.append_nil]
  after_results
  try rfl
theorem end8 (c : Dev nD) : (Pipeline.afterTail₀ cfgs (vdats m) 0 (V0 m) [hostOps1] c main_v8 : S30x1024x4096.Idx → EReal) = shapeCast S30x1024x4096 (ARR7 m c) shapeCasts_S30720x4096_S30x1024x4096 := by
  unfold Pipeline.afterTail₀
  refine (tail8 _).trans ?_
  rw [← arr7]
  refine congrArg (fun x : S30720x4096.Idx → EReal => shapeCast S30x1024x4096 x shapeCasts_S30720x4096_S30x1024x4096) ?_
  exact Pipeline.withArrays_arr spec0 (by decide) c (V0 m c) (fun w => (vdats m 0 c).arrAt w (cfgs 0).N) 7
theorem tail9 (w : Valuation τ sig (Elt Ideal)) : (StableHlo.after [hostOps1].flatten w (Proc.tc.devRef main_v9) : S30x1024x1.Idx → EReal)
    = shapeCast S30x1024x1 (w (Proc.tc.devRef main_v5_3) : S120x2x128.Idx → EReal) shapeCasts_S120x2x128_S30x1024x1 := by
  simp only [hostOps1, List.flatten_cons, List.flatten_nil, List.append_nil]
  after_results
  try rfl
theorem end9 (c : Dev nD) : (Pipeline.afterTail₀ cfgs (vdats m) 0 (V0 m) [hostOps1] c main_v9 : S30x1024x1.Idx → EReal) = shapeCast S30x1024x1 (ARR8 m c) shapeCasts_S120x2x128_S30x1024x1 := by
  unfold Pipeline.afterTail₀
  refine (tail9 _).trans ?_
  rw [← arr8]
  refine congrArg (fun x : S120x2x128.Idx → EReal => shapeCast S30x1024x1 x shapeCasts_S120x2x128_S30x1024x1) ?_
  exact Pipeline.withArrays_arr spec0 (by decide) c (V0 m c) (fun w => (vdats m 0 c).arrAt w (cfgs 0).N) 8

theorem uncast_vec (x : S1x4096.Idx → EReal) (j : S4096.Idx) : shapeCast S4096 x shapeCasts_S1x4096_S4096 j = x (ix2 0 (j 0)) := by
  pointwise
theorem uncast_rows (x : S30720x4096.Idx → EReal) (j : S30x1024x4096.Idx) (h : 1024 * (j 0).val + (j 1).val < 30720) :
    shapeCast S30x1024x4096 x shapeCasts_S30720x4096_S30x1024x4096 j = x (ix2 ⟨1024 * (j 0).val + (j 1).val, h⟩ (j 2)) := by
  pointwise
  blk_ext
theorem uncast_stat (x : S120x2x128.Idx → EReal) (b : Fin 30) (s : Fin 1024) (h : (1024 * b.val + s.val) / 256 < 120) (h' : (1024 * b.val + s.val) / 128 % 2 < 2) (h'' : (1024 * b.val + s.val) % 128 < 128) :
    shapeCast S30x1024x1 x shapeCasts_S120x2x128_S30x1024x1 (ix3 b s 0) = x (ix3 ⟨(1024 * b.val + s.val) / 256, h⟩ ⟨(1024 * b.val + s.val) / 128 % 2, h'⟩ ⟨(1024 * b.val + s.val) % 128, h''⟩) := by
  pointwise
  blk_ext

/-- The results, as functions of the arguments. -/
def K6 (c : Dev nD) (j : S4096.Idx) : EReal := ∑ b : Fin 30, ∑ s : Fin 1024, DGROW (m ((c.tc : Thread nD τ).loc main_arg0)) (m ((c.tc : Thread nD τ).loc main_arg1)) (m ((c.tc : Thread nD τ).loc main_arg3)) (m ((c.tc : Thread nD τ).loc main_arg4)) (j 0) b s
def K7 (c : Dev nD) (j : S4096.Idx) : EReal := ∑ b : Fin 30, ∑ s : Fin 1024, DBROW (m ((c.tc : Thread nD τ).loc main_arg1)) (j 0) b s
def K8 (c : Dev nD) (j : S30x1024x4096.Idx) : EReal := KCODE m c (j 0) (j 1) (j 2)
def K9 (c : Dev nD) (j : S30x1024x1.Idx) : EReal := SCL (KV m c (j 0) (j 1))
theorem row_of (b : Fin 30) (s : Fin 1024) (n : ℕ) (h : n < 30720) (e : n = 1024 * b.val + s.val) : rowB n h = b ∧ rowS n = s := by
  subst e
  refine ⟨Fin.ext ?_, Fin.ext ?_⟩
  · show (1024 * b.val + s.val) / 1024 = b.val; omega
  · show (1024 * b.val + s.val) % 1024 = s.val; omega
theorem fin6 (c : Dev nD) : (Pipeline.afterTail₀ cfgs (vdats m) 0 (V0 m) [hostOps1] c main_v6 : S4096.Idx → EReal) = K6 m c := by
  funext j
  rw [end6, uncast_vec]
  exact sum17 m c (j 0)
theorem fin7 (c : Dev nD) : (Pipeline.afterTail₀ cfgs (vdats m) 0 (V0 m) [hostOps1] c main_v7 : S4096.Idx → EReal) = K7 m c := by
  funext j
  rw [end7, uncast_vec]
  exact sum18 m c (j 0)
theorem fin8 (c : Dev nD) : (Pipeline.afterTail₀ cfgs (vdats m) 0 (V0 m) [hostOps1] c main_v8 : S30x1024x4096.Idx → EReal) = K8 m c := by
  funext j
  have h0 : (j 0).val < 30 := (j 0).isLt
  have h1 : (j 1).val < 1024 := (j 1).isLt
  rw [end8, uncast_rows _ _ (by omega)]
  obtain ⟨e0, e1⟩ := row_of (j 0) (j 1) (1024 * (j 0).val + (j 1).val) (by omega) rfl
  show KCODE m c (rowB (1024 * (j 0).val + (j 1).val) _) (rowS (1024 * (j 0).val + (j 1).val)) (j 2) = KCODE m c (j 0) (j 1) (j 2)
  rw [e0, e1]
theorem fin9 (c : Dev nD) : (Pipeline.afterTail₀ cfgs (vdats m) 0 (V0 m) [hostOps1] c main_v9 : S30x1024x1.Idx → EReal) = K9 m c := by
  funext j
  obtain ⟨b, s, rfl⟩ : ∃ (b : Fin 30) (s : Fin 1024), j = ix3 b s 0 := ⟨j 0, j 1, by
    funext a
    match a with
    | ⟨0, _⟩ => rfl
    | ⟨1, _⟩ => rfl
    | ⟨2, _⟩ => exact Fin.ext (Nat.lt_one_iff.mp (j 2).isLt)⟩
  rw [end9, uncast_stat _ _ _ (by omega) (by omega) (by omega)]
  have e : 256 * ((1024 * b.val + s.val) / 256) + (128 * ((1024 * b.val + s.val) / 128 % 2) + (1024 * b.val + s.val) % 128) = 1024 * b.val + s.val := by omega
  obtain ⟨e0, e1⟩ := row_of b s _ (by omega) e
  show SCL (KV m c (rowB (256 * ((1024 * b.val + s.val) / 256) + (128 * ((1024 * b.val + s.val) / 128 % 2) + (1024 * b.val + s.val) % 128)) _) (rowS (256 * ((1024 * b.val + s.val) / 256) + (128 * ((1024 * b.val + s.val) / 128 % 2) + (1024 * b.val + s.val) % 128)))) = SCL (KV m c b s)
  rw [e0, e1]

/-- Every run ends with the four results so, and the arguments as they were. -/
theorem results : θ_run defs (onTc (τ := τ) (main (F := Ideal))) ⟨m, fun _ => 0, ρ⟩ (fun r => ∀ c : Dev nD,
    (r.2.mem ((c.tc : Thread nD τ).loc main_v6) : S4096.Idx → EReal) = K6 m c
    ∧ (r.2.mem ((c.tc : Thread nD τ).loc main_v7) : S4096.Idx → EReal) = K7 m c
    ∧ (r.2.mem ((c.tc : Thread nD τ).loc main_v8) : S30x1024x4096.Idx → EReal) = K8 m c
    ∧ (r.2.mem ((c.tc : Thread nD τ).loc main_v9) : S30x1024x1.Idx → EReal) = K9 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨
    ((h.1 c).2 main_v6 (Pipeline.mem_restRefs_of main_v6 (by decide) (by decide))).trans (fin6 m c),
    ((h.1 c).2 main_v7 (Pipeline.mem_restRefs_of main_v7 (by decide) (by decide))).trans (fin7 m c),
    ((h.1 c).2 main_v8 (Pipeline.mem_restRefs_of main_v8 (by decide) (by decide))).trans (fin8 m c),
    ((h.1 c).2 main_v9 (Pipeline.mem_restRefs_of main_v9 (by decide) (by decide))).trans (fin9 m c),
    ((h.1 c).2 main_arg0 (Pipeline.mem_restRefs_of main_arg0 (by decide) (by decide))).trans (W_main_arg0 m (vdats m) c),
    ((h.1 c).2 main_arg1 (Pipeline.mem_restRefs_of main_arg1 (by decide) (by decide))).trans (W_main_arg1 m (vdats m) c),
    ((h.1 c).2 main_arg2 (Pipeline.mem_restRefs_of main_arg2 (by decide) (by decide))).trans (W_main_arg2 m (vdats m) c),
    ((h.1 c).2 main_arg3 (Pipeline.mem_restRefs_of main_arg3 (by decide) (by decide))).trans (W_main_arg3 m (vdats m) c),
    ((h.1 c).2 main_arg4 (Pipeline.mem_restRefs_of main_arg4 (by decide) (by decide))).trans (W_main_arg4 m (vdats m) c)⟩) (vrun_main m ρ)

end Cert.KernelIdeal.Gen

end
-- ==== Proof.Value.RefV.lean ====
module

public import proofs.«01_k».proof.Proof.Gen.ReferenceIdeal.Frame

public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The reference's values as functions of its arguments.
-/
variable (a0 a1 : FVec Ideal S30x1024x4096 .bf16) (a2 : FVec Ideal S4096 .f32) (a3 a4 : FVec Ideal S30x1024 .f32)
def RR : FVec Ideal S30x1024x1 .f32 := broadcastInDim S30x1024x1 ![0, 1] bcast_S30x1024_S30x1024x1_0_1 a4
def RXH : FVec Ideal S30x1024x4096 .f32 := mulf (subf (extf .f32 a0 bitsLt_bf16_f32) (broadcastInDim S30x1024x4096 ![0, 1, 2] bcast_S30x1024x1_S30x1024x4096_0_1_2 (broadcastInDim S30x1024x1 ![0, 1] bcast_S30x1024_S30x1024x1_0_1 a3))) (broadcastInDim S30x1024x4096 ![0, 1, 2] bcast_S30x1024x1_S30x1024x4096_0_1_2 (RR a4))
def RG : FVec Ideal S30x1024x4096 .f32 := mulf (extf .f32 a1 bitsLt_bf16_f32) (broadcastInDim S30x1024x4096 ![0, 1, 2] bcast_S1x1x4096_S30x1024x4096_0_1_2 (broadcastInDim S1x1x4096 ![2] bcast_S4096_S1x1x4096_2 a2))
def RMEAN (v : FVec Ideal S30x1024x4096 .f32) : FVec Ideal S30x1024x1 .f32 := Host.divf (broadcastInDim S30x1024x1 ![0, 1] bcast_S30x1024_S30x1024x1_0_1 (Host.reduceAdd v (constant S_ .f32 0x00000000#32) reducesTo_S30x1024x4096_S30x1024_d2 h_S_)) (broadcastInDim S30x1024x1 ![] bcast_S_S30x1024x1 (constant S_ .f32 0x45800000#32))
def RDX : FVec Ideal S30x1024x4096 .f32 := mulf (broadcastInDim S30x1024x4096 ![0, 1, 2] bcast_S30x1024x1_S30x1024x4096_0_1_2 (RR a4))
  (subf (subf (RG a1 a2) (broadcastInDim S30x1024x4096 ![0, 1, 2] bcast_S30x1024x1_S30x1024x4096_0_1_2 (RMEAN (RG a1 a2))))
    (mulf (RXH a0 a3 a4) (broadcastInDim S30x1024x4096 ![0, 1, 2] bcast_S30x1024x1_S30x1024x4096_0_1_2 (RMEAN (mulf (RG a1 a2) (RXH a0 a3 a4))))))
def RDG : FVec Ideal S4096 .f32 := Host.reduceAdd (mulf (extf .f32 a1 bitsLt_bf16_f32) (RXH a0 a3 a4)) (constant S_ .f32 0x00000000#32) reducesTo_S30x1024x4096_S4096_d0_1 h_S_
def RDB : FVec Ideal S4096 .f32 := Host.reduceAdd (extf .f32 a1 bitsLt_bf16_f32 : FVec Ideal S30x1024x4096 .f32) (constant S_ .f32 0x00000000#32) reducesTo_S30x1024x4096_S4096_d0_1 h_S_
def RAMAX : FVec Ideal S30x1024x1 .f32 := broadcastInDim S30x1024x1 ![0, 1] bcast_S30x1024_S30x1024x1_0_1 (Host.reduce FloatOps.maximumf (Host.absf (RDX a0 a1 a2 a3 a4)) (constant S_ .f32 0xFF800000#32) reducesTo_S30x1024x4096_S30x1024_d2 h_S_)
/-- The powers of two the exponent counts, and their comparisons with a vector of values. -/
def RPOW : FVec Ideal S277 .f32 := Host.powf (broadcastInDim S277 ![] bcast_S_S277 (constant S_ .f32 0x40000000#32)) (addf (broadcastInDim S277 ![] bcast_S_S277 (constant S_ .f32 0xC3150000#32)) (sitofp .f32 (iotaInDim S277 32 0)))
def RGE (v : FVec Ideal S30x1024x1 .f32) : IVec S30x1024x277 1 := cmpf .oge (broadcastInDim S30x1024x277 ![0, 1, 2] bcast_S30x1024x1_S30x1024x277_0_1_2 v) (broadcastInDim S30x1024x277 ![0, 1, 2] bcast_S1x1x277_S30x1024x277_0_1_2 (broadcastInDim S1x1x277 ![2] bcast_S277_S1x1x277_2 RPOW))
/-- The exponents of a vector of greatest values. -/
def REXP (a : FVec Ideal S30x1024x1 .f32) : FVec Ideal S30x1024x1 .f32 :=
  select (cmpf .oeq a (broadcastInDim S30x1024x1 ![] bcast_S_S30x1024x1 (constant S_ .f32 0x00000000#32))) (broadcastInDim S30x1024x1 ![] bcast_S_S30x1024x1 (constant (F := Ideal) S_ .f32 0x00000000#32))
    (subf (broadcastInDim S30x1024x1 ![0, 1] bcast_S30x1024_S30x1024x1_0_1 (Host.reduceAdd (select (RGE (mulf a (broadcastInDim S30x1024x1 ![] bcast_S_S30x1024x1 (constant S_ .f32 0x37924925#32)))) (broadcastInDim S30x1024x277 ![] bcast_S_S30x1024x277 (constant (F := Ideal) S_ .f32 0x3F800000#32)) (broadcastInDim S30x1024x277 ![] bcast_S_S30x1024x277 (constant (F := Ideal) S_ .f32 0x00000000#32))) (constant S_ .f32 0x00000000#32) reducesTo_S30x1024x277_S30x1024_d2 h_S_)) (broadcastInDim S30x1024x1 ![] bcast_S_S30x1024x1 (constant S_ .f32 0x43150000#32)))
def RP2 (e : FVec Ideal S30x1024x1 .f32) : FVec Ideal S30x1024x1 .f32 := Host.powf (broadcastInDim S30x1024x1 ![] bcast_S_S30x1024x1 (constant S_ .f32 0x40000000#32)) e
def RCODE : FVec Ideal S30x1024x4096 .f32 := minimumf (broadcastInDim S30x1024x4096 ![] bcast_S_S30x1024x4096 (constant S_ .f32 0x47600000#32)) (maximumf (broadcastInDim S30x1024x4096 ![] bcast_S_S30x1024x4096 (constant S_ .f32 0xC7600000#32))
  (mulf (RDX a0 a1 a2 a3 a4) (broadcastInDim S30x1024x4096 ![0, 1, 2] bcast_S30x1024x1_S30x1024x4096_0_1_2 (RP2 (Host.negf (REXP (RAMAX a0 a1 a2 a3 a4)))))))

variable (m : (ℓ : Loc nD τ sig) → Buf (Elt Ideal) ℓ)
theorem a0_32 (w : Valuation τ sig (Elt Ideal)) : (StableHlo.after hostOps0 w (Proc.tc.devRef main_v32) : S30x1024x1.Idx → EReal) = RAMAX (w (Proc.tc.devRef main_arg0)) (w (Proc.tc.devRef main_arg1)) (w (Proc.tc.devRef main_arg2)) (w (Proc.tc.devRef main_arg3)) (w (Proc.tc.devRef main_arg4)) := by
  simp only [hostOps0]
  after_results
  try rfl
theorem a0_26 (w : Valuation τ sig (Elt Ideal)) : (StableHlo.after hostOps0 w (Proc.tc.devRef main_v26) : S30x1024x4096.Idx → EReal) = RDX (w (Proc.tc.devRef main_arg0)) (w (Proc.tc.devRef main_arg1)) (w (Proc.tc.devRef main_arg2)) (w (Proc.tc.devRef main_arg3)) (w (Proc.tc.devRef main_arg4)) := by
  simp only [hostOps0]
  after_results
  try rfl
theorem a0_43 (w : Valuation τ sig (Elt Ideal)) : (StableHlo.after hostOps0 w (Proc.tc.devRef main_v43) : S30x1024x277.Idx → BitVec 1) = (RGE (mulf (RAMAX (w (Proc.tc.devRef main_arg0)) (w (Proc.tc.devRef main_arg1)) (w (Proc.tc.devRef main_arg2)) (w (Proc.tc.devRef main_arg3)) (w (Proc.tc.devRef main_arg4))) (broadcastInDim S30x1024x1 ![] bcast_S_S30x1024x1 (constant S_ .f32 0x37924925#32))) : IVec S30x1024x277 1) := by
  simp only [hostOps0]
  after_results
  try rfl
theorem a0_c9 (w : Valuation τ sig (Elt Ideal)) : (StableHlo.after hostOps0 w (Proc.tc.devRef main_cst_9) : S_.Idx → EReal) = constant (F := Ideal) S_ .f32 0x3F800000#32 := by
  simp only [hostOps0]
  after_results
  try rfl
theorem a0_c10 (w : Valuation τ sig (Elt Ideal)) : (StableHlo.after hostOps0 w (Proc.tc.devRef main_cst_10) : S_.Idx → EReal) = constant (F := Ideal) S_ .f32 0x00000000#32 := by
  simp only [hostOps0]
  after_results
  try rfl
theorem a1_44 (w : Valuation τ sig (Elt Ideal)) : (StableHlo.after hostOps0_1 w (Proc.tc.devRef main_v44) : S30x1024x277.Idx → EReal) = (select (w (Proc.tc.devRef main_v43) : IVec S30x1024x277 1) (broadcastInDim (s := S_) S30x1024x277 ![] bcast_S_S30x1024x277 ((w (Proc.tc.devRef main_cst_9)) : S_.Idx → EReal)) (broadcastInDim (s := S_) S30x1024x277 ![] bcast_S_S30x1024x277 ((w (Proc.tc.devRef main_cst_10)) : S_.Idx → EReal)) : S30x1024x277.Idx → EReal) := by
  simp only [hostOps0_1]
  after_results
  try rfl
theorem a1_32 (w : Valuation τ sig (Elt Ideal)) : (StableHlo.after hostOps0_1 w (Proc.tc.devRef main_v32) : S30x1024x1.Idx → EReal) = (w (Proc.tc.devRef main_v32)) := by
  simp only [hostOps0_1]
  after_results
  try rfl
theorem a1_26 (w : Valuation τ sig (Elt Ideal)) : (StableHlo.after hostOps0_1 w (Proc.tc.devRef main_v26) : S30x1024x4096.Idx → EReal) = (w (Proc.tc.devRef main_v26)) := by
  simp only [hostOps0_1]
  after_results
  try rfl
theorem a2_51 (w : Valuation τ sig (Elt Ideal)) : (StableHlo.after hostOps0_2 w (Proc.tc.devRef main_v51) : S30x1024x1.Idx → BitVec 1) = (cmpf (F := Ideal) (φ := .f32) .oeq (w (Proc.tc.devRef main_v32)) (broadcastInDim S30x1024x1 ![] bcast_S_S30x1024x1 (constant (F := Ideal) S_ .f32 0x00000000#32)) : IVec S30x1024x1 1) := by
  simp only [hostOps0_2]
  after_results
  try rfl
theorem a2_49 (w : Valuation τ sig (Elt Ideal)) : (StableHlo.after hostOps0_2 w (Proc.tc.devRef main_v49) : S30x1024x1.Idx → EReal) = (subf (F := Ideal) (φ := .f32) (broadcastInDim S30x1024x1 ![0, 1] bcast_S30x1024_S30x1024x1_0_1 (Host.reduceAdd (F := Ideal) (φ := .f32) (w (Proc.tc.devRef main_v44)) (constant S_ .f32 0x00000000#32) reducesTo_S30x1024x277_S30x1024_d2 h_S_)) (broadcastInDim S30x1024x1 ![] bcast_S_S30x1024x1 (constant S_ .f32 0x43150000#32)) : S30x1024x1.Idx → EReal) := by
  simp only [hostOps0_2]
  after_results
  try rfl
theorem a2_c14 (w : Valuation τ sig (Elt Ideal)) : (StableHlo.after hostOps0_2 w (Proc.tc.devRef main_cst_14) : S_.Idx → EReal) = constant (F := Ideal) S_ .f32 0x00000000#32 := by
  simp only [hostOps0_2]
  after_results
  try rfl
theorem a2_26 (w : Valuation τ sig (Elt Ideal)) : (StableHlo.after hostOps0_2 w (Proc.tc.devRef main_v26) : S30x1024x4096.Idx → EReal) = (w (Proc.tc.devRef main_v26)) := by
  simp only [hostOps0_2]
  after_results
  try rfl
theorem a3_52 (w : Valuation τ sig (Elt Ideal)) : (StableHlo.after hostOps0_3 w (Proc.tc.devRef main_v52) : S30x1024x1.Idx → EReal) = (select (w (Proc.tc.devRef main_v51) : IVec S30x1024x1 1) (broadcastInDim (s := S_) S30x1024x1 ![] bcast_S_S30x1024x1 ((w (Proc.tc.devRef main_cst_14)) : S_.Idx → EReal)) (w (Proc.tc.devRef main_v49)) : S30x1024x1.Idx → EReal) := by
  simp only [hostOps0_3]
  after_results
  try rfl
theorem a3_26 (w : Valuation τ sig (Elt Ideal)) : (StableHlo.after hostOps0_3 w (Proc.tc.devRef main_v26) : S30x1024x4096.Idx → EReal) = (w (Proc.tc.devRef main_v26)) := by
  simp only [hostOps0_3]
  after_results
  try rfl
theorem a4_54 (w : Valuation τ sig (Elt Ideal)) : (StableHlo.after hostOps0_4 w (Proc.tc.devRef main_v54) : S30x1024x1.Idx → EReal) = RP2 (w (Proc.tc.devRef main_v52)) := by
  simp only [hostOps0_4]
  after_results
  try rfl
theorem a4_59 (w : Valuation τ sig (Elt Ideal)) : (StableHlo.after hostOps0_4 w (Proc.tc.devRef main_v59) : S30x1024x4096.Idx → EReal) = (mulf (F := Ideal) (φ := .f32) (w (Proc.tc.devRef main_v26)) (broadcastInDim S30x1024x4096 ![0, 1, 2] bcast_S30x1024x1_S30x1024x4096_0_1_2 (RP2 (Host.negf (F := Ideal) (φ := .f32) (w (Proc.tc.devRef main_v52))))) : S30x1024x4096.Idx → EReal) := by
  simp only [hostOps0_4]
  after_results
  try rfl
theorem a4_c17 (w : Valuation τ sig (Elt Ideal)) : (StableHlo.after hostOps0_4 w (Proc.tc.devRef main_cst_17) : S_.Idx → EReal) = constant (F := Ideal) S_ .f32 0xC7600000#32 := by
  simp only [hostOps0_4]
  after_results
  try rfl
theorem a4_c18 (w : Valuation τ sig (Elt Ideal)) : (StableHlo.after hostOps0_4 w (Proc.tc.devRef main_cst_18) : S_.Idx → EReal) = constant (F := Ideal) S_ .f32 0x47600000#32 := by
  simp only [hostOps0_4]
  after_results
  try rfl
theorem a5_54 (w : Valuation τ sig (Elt Ideal)) : (StableHlo.after hostOps0_5 w (Proc.tc.devRef main_v54) : S30x1024x1.Idx → EReal) = (w (Proc.tc.devRef main_v54)) := by
  simp only [hostOps0_5]
  after_results
  try rfl
theorem a5_60 (w : Valuation τ sig (Elt Ideal)) : (StableHlo.after hostOps0_5 w (Proc.tc.devRef main_v60) : S30x1024x4096.Idx → EReal) = (minimumf (F := Ideal) (φ := .f32) (broadcastInDim (s := S_) S30x1024x4096 ![] bcast_S_S30x1024x4096 ((w (Proc.tc.devRef main_cst_18)) : S_.Idx → EReal)) (maximumf (F := Ideal) (φ := .f32) (broadcastInDim (s := S_) S30x1024x4096 ![] bcast_S_S30x1024x4096 ((w (Proc.tc.devRef main_cst_17)) : S_.Idx → EReal)) (w (Proc.tc.devRef main_v59))) : S30x1024x4096.Idx → EReal) := by
  simp only [hostOps0_5]
  after_results
  try rfl
theorem t28 (c : Dev nD) : (V m c main_v28 : S4096.Idx → EReal) = RDG (m ((c.tc : Thread nD τ).loc main_arg0)) (m ((c.tc : Thread nD τ).loc main_arg1)) (m ((c.tc : Thread nD τ).loc main_arg3)) (m ((c.tc : Thread nD τ).loc main_arg4)) := by
  show StableHlo.after (List.flatten [hostOps0, hostOps0_1, hostOps0_2, hostOps0_3, hostOps0_4, hostOps0_5]) (fun b => m (c, b)) _ = _
  simp only [hostOps0, hostOps0_1, hostOps0_2, hostOps0_3, hostOps0_4, hostOps0_5, List.flatten_cons, List.flatten_nil, List.append_nil, List.cons_append, List.nil_append]
  after_results
  rfl
theorem t29 (c : Dev nD) : (V m c main_v29 : S4096.Idx → EReal) = RDB (m ((c.tc : Thread nD τ).loc main_arg1)) := by
  show StableHlo.after (List.flatten [hostOps0, hostOps0_1, hostOps0_2, hostOps0_3, hostOps0_4, hostOps0_5]) (fun b => m (c, b)) _ = _
  simp only [hostOps0, hostOps0_1, hostOps0_2, hostOps0_3, hostOps0_4, hostOps0_5, List.flatten_cons, List.flatten_nil, List.append_nil, List.cons_append, List.nil_append]
  after_results
  rfl

theorem V_stages (c : Dev nD) (b : Ref sig .tc) : V m c b = StableHlo.after hostOps0_5 (StableHlo.after hostOps0_4 (StableHlo.after hostOps0_3 (StableHlo.after hostOps0_2 (StableHlo.after hostOps0_1 (StableHlo.after hostOps0 (fun b => m (c, b))))))) (Proc.tc.devRef b) := by
  show StableHlo.after (List.flatten [hostOps0, hostOps0_1, hostOps0_2, hostOps0_3, hostOps0_4, hostOps0_5]) (fun b => m (c, b)) _ = _
  simp only [List.flatten_cons, List.flatten_nil, List.append_nil, Idealize.ShloMosaic.StableHlo.after_append]

theorem t52 (c : Dev nD) : (StableHlo.after hostOps0_3 (StableHlo.after hostOps0_2 (StableHlo.after hostOps0_1 (StableHlo.after hostOps0 (fun b => m (c, b))))) (Proc.tc.devRef main_v52) : S30x1024x1.Idx → EReal) = REXP (RAMAX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (a3_52 _).trans ?_
  rw [a2_51, a2_49, a2_c14, a1_32, a1_44, a0_32, a0_43, a0_c9, a0_c10]
  rfl
theorem t54 (c : Dev nD) : (V m c main_v54 : S30x1024x1.Idx → EReal) = RP2 (REXP (RAMAX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) := by
  refine (V_stages m c main_v54).trans ?_
  refine (a5_54 _).trans ((a4_54 _).trans ?_)
  rw [t52]
theorem t60 (c : Dev nD) : (V m c main_v60 : S30x1024x4096.Idx → EReal) = RCODE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (V_stages m c main_v60).trans ?_
  refine (a5_60 _).trans ?_
  rw [a4_c17, a4_c18, a4_59, a3_26, a2_26, a1_26, a0_26, t52]
  rfl

end Cert.ReferenceIdeal.Gen

end
-- ==== Proof.Value.RefP.lean ====
module

public import proofs.«01_k».proof.Proof.Value.RefV
public import proofs.«01_k».proof.Proof.Value.Row

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (rG rXH rMEAN rZ rA rV rCODE SCL INV CODE FE REFE bot_bits abs_nonneg')

theorem ob_4096 : Ideal.ofBits .f32 1166016512#32 = ((4096 : ℝ) : EReal) := by
  simp [Ideal.ofBits, Ideal.ieee]; norm_num; rw [← EReal.coe_mul]; norm_num
theorem ob_inv4096 : Ideal.ofBits .f32 0x39800000#32 = ((1 / 4096 : ℝ) : EReal) := by
  simp [Ideal.ofBits, Ideal.ieee]; norm_num; rw [← EReal.coe_mul]; norm_num
theorem ob_2 : Ideal.ofBits .f32 1073741824#32 = ((2 : ℝ) : EReal) := by
  simp [Ideal.ofBits, Ideal.ieee]; norm_num; rw [← EReal.coe_mul]; norm_num
theorem ob_m149 : Ideal.ofBits .f32 3272933376#32 = ((-149 : ℝ) : EReal) := by
  simp [Ideal.ofBits, Ideal.ieee]; norm_num; rw [← EReal.coe_mul]; norm_num
theorem ob_149 : Ideal.ofBits .f32 1125449728#32 = ((149 : ℝ) : EReal) := by
  simp [Ideal.ofBits, Ideal.ieee]; norm_num; rw [← EReal.coe_mul]; norm_num
theorem ob_c : ∃ c : ℝ, 0 < c ∧ Ideal.ofBits .f32 0x37924925#32 = (c : EReal) := by
  refine ⟨_, ?_, by simp [Ideal.ofBits, Ideal.ieee]; rfl⟩
  norm_num

variable (a0 a1 : S30x1024x4096.Idx → EReal) (a2 : S4096.Idx → EReal) (a3 a4 : S30x1024.Idx → EReal)
theorem rxh (j : S30x1024x4096.Idx) : (RXH a0 a3 a4 j : EReal) = (a0 j - a3 (ix2 (j 0) (j 1))) * a4 (ix2 (j 0) (j 1)) := by
  pointwise [RXH, RR]
theorem rg (j : S30x1024x4096.Idx) : (RG a1 a2 j : EReal) = a1 j * a2 (ix1 (j 2)) := by
  pointwise [RG]
theorem rmean (v : S30x1024x4096.Idx → EReal) (b : Fin 30) (s : Fin 1024) :
    (RMEAN v (ix3 b s 0) : EReal) = rMEAN fun k => v (ix3 b s k) := by
  have h : (RMEAN v (ix3 b s 0) : EReal) = Ideal.div (∑ k, v (ix3 b s k)) (Ideal.ofBits .f32 1166016512#32) := by
    pointwise [RMEAN]
  rw [h, ob_4096, Ideal.div_coe (by norm_num)]
  unfold rMEAN
  rw [ob_inv4096]
theorem rdx (b : Fin 30) (s : Fin 1024) (k : Fin 4096) :
    (RDX a0 a1 a2 a3 a4 (ix3 b s k) : EReal) = a4 (ix2 b s) * rZ (fun k => a0 (ix3 b s k)) (fun k => a1 (ix3 b s k)) (fun k => a2 (ix1 k)) (a3 (ix2 b s)) (a4 (ix2 b s)) k := by
  have h : (RDX a0 a1 a2 a3 a4 (ix3 b s k) : EReal) = a4 (ix2 b s) * (RG a1 a2 (ix3 b s k) - RMEAN (RG a1 a2) (ix3 b s 0) - RXH a0 a3 a4 (ix3 b s k) * RMEAN (mulf (F := Ideal) (φ := .f32) (RG a1 a2) (RXH a0 a3 a4)) (ix3 b s 0) : EReal) := by
    pointwise [RDX, RR]
  rw [h, rmean, rmean, rg, rxh]
  unfold rZ
  have e1 : (fun k => RG a1 a2 (ix3 b s k) : Fin 4096 → EReal) = rG (fun k => a1 (ix3 b s k)) (fun k => a2 (ix1 k)) := by
    funext k; exact rg a1 a2 _
  have e2 : (fun k => mulf (F := Ideal) (φ := .f32) (RG a1 a2) (RXH a0 a3 a4) (ix3 b s k) : Fin 4096 → EReal)
      = fun k => rG (fun k => a1 (ix3 b s k)) (fun k => a2 (ix1 k)) k * rXH (fun k => a0 (ix3 b s k)) (a3 (ix2 b s)) (a4 (ix2 b s)) k := by
    funext k
    show (RG a1 a2 (ix3 b s k) : EReal) * RXH a0 a3 a4 (ix3 b s k) = _
    rw [rg, rxh]
    rfl
  rw [e1, e2]
  rfl
theorem ramax (b : Fin 30) (s : Fin 1024) : (RAMAX a0 a1 a2 a3 a4 (ix3 b s 0) : EReal) = rA (fun k => a0 (ix3 b s k)) (fun k => a1 (ix3 b s k)) (fun k => a2 (ix1 k)) (a3 (ix2 b s)) (a4 (ix2 b s)) := by
  have h : (RAMAX a0 a1 a2 a3 a4 (ix3 b s 0) : EReal) = Finset.univ.fold max (Ideal.ofBits .f32 0xFF800000#32) fun k => FloatOps.absf (F := Ideal) (φ := .f32) (RDX a0 a1 a2 a3 a4 (ix3 b s k)) := by
    pointwise [RAMAX]
  rw [h]
  unfold rA
  refine congrArg (fun f => Finset.univ.fold max (Ideal.ofBits .f32 0xFF800000#32) f) (funext fun k => ?_)
  show max (RDX a0 a1 a2 a3 a4 (ix3 b s k) : EReal) (-(RDX a0 a1 a2 a3 a4 (ix3 b s k) : EReal)) = _
  rw [rdx]
theorem int_ofNat : ∀ x : Fin 277, (BitVec.ofNat 32 x.val).toInt = (x.val : ℤ) := by decide +kernel
/-- The reference's powers of two, from 2^-149 on, and its exponent of a row: zero for a zero value, else their count less 149. -/
def PW (n : ℕ) : EReal := (((2 : ℝ) ^ ((n : ℤ) - 149) : ℝ) : EReal)
def REFT (a v : EReal) : EReal := if a = 0 then 0 else (∑ x : Fin 277, if PW x.val ≤ v then (1 : EReal) else 0) - ((149 : ℝ) : EReal)
/-- A row's scaled greatest value lies in the range. -/
def OK (v : EReal) : Prop := v = 0 ∨ (Ideal.ofBits .f32 0x00400000#32 ≤ v ∧ v < Ideal.ofBits .f32 0x7E800000#32)
theorem ob_low : Ideal.ofBits .f32 0x00400000#32 = PW 22 := by
  unfold PW
  simp [Ideal.ofBits, Ideal.ieee]
  norm_num
  rw [← EReal.coe_mul]
  norm_num
theorem fe_253 : Ideal.ofBits .f32 0x7E800000#32 = FE 253 := by
  unfold FE
  congr 1
theorem PW_mono (n k : ℕ) (h : n ≤ k) : PW n ≤ PW k :=
  EReal.coe_le_coe_iff.mpr (zpow_le_zpow_right₀ (by norm_num) (by omega))
theorem PW_FE (n : ℕ) (h : n < 254) : PW (23 + n) = FE (n + 1) := by
  rw [Cert.KernelIdeal.Gen.FE_mid _ (by omega) (by omega)]
  unfold PW
  refine congrArg (fun z : ℤ => (((2 : ℝ) ^ z : ℝ) : EReal)) ?_
  push_cast
  ring
theorem count_split (f : ℕ → ℝ) (h : ∀ n < 23, f n = 1) : (∑ x : Fin 277, f x.val) - 149 = (∑ x : Fin 254, f (23 + x.val)) - 126 := by
  have e : (∑ x : Fin (23 + 254), f x.val) = (∑ x : Fin 23, f x.val) + ∑ x : Fin 254, f (23 + x.val) := Fin.sum_univ_add _
  have e2 : (∑ x : Fin 23, f x.val) = 23 := by
    rw [Finset.sum_congr rfl fun x _ => h x.val x.isLt]
    simp
  have e' : (∑ x : Fin 277, f x.val) = 23 + ∑ x : Fin 254, f (23 + x.val) := e.trans (by rw [e2])
  rw [e']
  ring
/-- In the range the powers below 2^-126 are all reached, so that counting them makes no difference. -/
theorem reft_eq (a v : EReal) (hav : a = 0 ↔ v = 0) (h : OK v) : REFT a v = REFE a v := by
  unfold REFT REFE
  by_cases ha : a = 0
  · rw [if_pos ha, if_pos ha]
  · rw [if_neg ha, if_neg ha]
    have hl : PW 22 ≤ v := by
      rcases h with h | h
      · exact absurd (hav.mpr h) ha
      · rw [← ob_low]; exact h.1
    have hs := count_split (fun n => if PW n ≤ v then (1 : ℝ) else 0) fun n hn => if_pos ((PW_mono n 22 (by omega)).trans hl)
    have c1 : (∑ x : Fin 277, if PW x.val ≤ v then (1 : EReal) else 0) = ((∑ x : Fin 277, if PW x.val ≤ v then (1 : ℝ) else 0 : ℝ) : EReal) := by
      rw [Cert.KernelIdeal.Gen.coe_sum]
      refine Finset.sum_congr rfl fun x _ => ?_
      split_ifs <;> rfl
    have c2 : (∑ x : Fin 254, if FE (x.val + 1) ≤ v then (1 : EReal) else 0) = ((∑ x : Fin 254, if PW (23 + x.val) ≤ v then (1 : ℝ) else 0 : ℝ) : EReal) := by
      rw [Cert.KernelIdeal.Gen.coe_sum]
      refine Finset.sum_congr rfl fun x _ => ?_
      rw [PW_FE x.val x.isLt]
      split_ifs <;> rfl
    rw [c1, c2, ← EReal.coe_sub, ← EReal.coe_sub]
    exact congrArg Real.toEReal hs
theorem ok_lt (v : EReal) (h : OK v) : v < FE 253 := by
  rcases h with h | h
  · rw [h, Cert.KernelIdeal.Gen.FE_mid _ (by norm_num) (by norm_num)]
    exact EReal.coe_lt_coe_iff.mpr (by positivity)
  · rw [← fe_253]; exact h.2
theorem rpow (x : Fin 277) : (RPOW (ix1 x) : EReal) = PW x.val := by
  have h : (RPOW (ix1 x) : EReal) = Ideal.pow (Ideal.ofBits .f32 1073741824#32) (Ideal.ofBits .f32 3272933376#32 + FloatOps.sitofp (F := Ideal) .f32 (BitVec.ofNat 32 x.val)) := by
    pointwise [RPOW]
  rw [h, ob_2, ob_m149]
  unfold PW
  have e : FloatOps.sitofp (F := Ideal) .f32 (BitVec.ofNat 32 x.val) = ((x.val : ℝ) : EReal) := by
    show (((BitVec.ofNat 32 x.val).toInt : ℝ) : EReal) = _
    rw [show (BitVec.ofNat 32 x.val).toInt = (x.val : ℤ) from int_ofNat x]
    norm_num
  rw [e, ← EReal.coe_add, Ideal.pow_coe_coe]
  refine congrArg Real.toEReal ?_
  rw [← Real.rpow_intCast]
  refine congrArg (fun z : ℝ => (2 : ℝ) ^ z) ?_
  push_cast
  ring
theorem rexp (a : S30x1024x1.Idx → EReal) (b : Fin 30) (s : Fin 1024) :
    (REXP a (ix3 b s 0) : EReal) = REFT (a (ix3 b s 0)) (a (ix3 b s 0) * Ideal.ofBits .f32 0x37924925#32) := by
  have h : (REXP a (ix3 b s 0) : EReal) = if a (ix3 b s 0) = 0 then 0 else (∑ x, if (RPOW (ix1 x) : EReal) ≤ a (ix3 b s 0) * Ideal.ofBits .f32 932333861#32 then 1 else 0) - Ideal.ofBits .f32 1125449728#32 := by
    pointwise [REXP, RGE]
  rw [h, ob_149]
  unfold REFT
  simp only [rpow]
theorem rp2 (a : S30x1024x1.Idx → EReal) (j : S30x1024x1.Idx) : (RP2 a j : EReal) = Ideal.pow ((2 : ℝ) : EReal) (a j) := by
  have h : (RP2 a j : EReal) = Ideal.pow (Ideal.ofBits .f32 1073741824#32) (a j) := by
    pointwise [RP2]
  rw [h, ob_2]
theorem rA_nonneg (x dy ga : Fin 4096 → EReal) (mu r : EReal) : 0 ≤ rA x dy ga mu r := by
  unfold rA
  exact (Finset.le_fold_max _).mpr (Or.inr ⟨0, Finset.mem_univ _, abs_nonneg' _⟩)
/-- In the range the searched powers are the powers of the counted exponent. -/
theorem row_scale (x dy ga : Fin 4096 → EReal) (mu r : EReal) (h : OK (rV x dy ga mu r)) :
    SCL (rV x dy ga mu r) = Ideal.pow ((2 : ℝ) : EReal) (REFT (rA x dy ga mu r) (rV x dy ga mu r))
      ∧ INV (rV x dy ga mu r) = Ideal.pow ((2 : ℝ) : EReal) (-(REFT (rA x dy ga mu r) (rV x dy ga mu r))) := by
  obtain ⟨c, hc, e⟩ := ob_c
  have h0 : rA x dy ga mu r = 0 ↔ rV x dy ga mu r = 0 := by
    unfold rV
    rw [e, mul_eq_zero]
    exact ⟨Or.inl, fun h => h.resolve_right (by exact_mod_cast hc.ne')⟩
  rw [reft_eq _ _ h0 h]
  refine Cert.KernelIdeal.Gen.scale_eq _ _ h0 ?_ (ok_lt _ h)
  unfold rV
  rw [e]
  exact mul_nonneg (rA_nonneg ..) (by exact_mod_cast hc.le)
theorem rscale (b : Fin 30) (s : Fin 1024) (h : OK (rV (fun k => a0 (ix3 b s k)) (fun k => a1 (ix3 b s k)) (fun k => a2 (ix1 k)) (a3 (ix2 b s)) (a4 (ix2 b s)))) :
    (RP2 (REXP (RAMAX a0 a1 a2 a3 a4)) (ix3 b s 0) : EReal) = SCL (rV (fun k => a0 (ix3 b s k)) (fun k => a1 (ix3 b s k)) (fun k => a2 (ix1 k)) (a3 (ix2 b s)) (a4 (ix2 b s))) := by
  rw [rp2, rexp, ramax, (row_scale _ _ _ _ _ h).1]
  rfl
theorem negf_at (v : S30x1024x1.Idx → EReal) (j : S30x1024x1.Idx) : (Host.negf (F := Ideal) (φ := .f32) v j : EReal) = -(v j) := rfl
theorem rinv (b : Fin 30) (s : Fin 1024) (hv : OK (rV (fun k => a0 (ix3 b s k)) (fun k => a1 (ix3 b s k)) (fun k => a2 (ix1 k)) (a3 (ix2 b s)) (a4 (ix2 b s)))) :
    (RP2 (Host.negf (F := Ideal) (φ := .f32) (REXP (RAMAX a0 a1 a2 a3 a4))) (ix3 b s 0) : EReal) = INV (rV (fun k => a0 (ix3 b s k)) (fun k => a1 (ix3 b s k)) (fun k => a2 (ix1 k)) (a3 (ix2 b s)) (a4 (ix2 b s))) := by
  rw [rp2]
  rw [negf_at, rexp, ramax, (row_scale _ _ _ _ _ hv).2]
  rfl
theorem rcode' (b : Fin 30) (s : Fin 1024) (k : Fin 4096) :
    (RCODE a0 a1 a2 a3 a4 (ix3 b s k) : EReal) = min (Ideal.ofBits .f32 0x47600000#32) (max (Ideal.ofBits .f32 0xC7600000#32) ((RDX a0 a1 a2 a3 a4 (ix3 b s k) : EReal) * RP2 (Host.negf (REXP (RAMAX a0 a1 a2 a3 a4))) (ix3 b s 0))) := by
  pointwise [RCODE]
theorem rcode (b : Fin 30) (s : Fin 1024) (k : Fin 4096) (hv : OK (rV (fun k => a0 (ix3 b s k)) (fun k => a1 (ix3 b s k)) (fun k => a2 (ix1 k)) (a3 (ix2 b s)) (a4 (ix2 b s)))) :
    (RCODE a0 a1 a2 a3 a4 (ix3 b s k) : EReal) = rCODE (fun k => a0 (ix3 b s k)) (fun k => a1 (ix3 b s k)) (fun k => a2 (ix1 k)) (a3 (ix2 b s)) (a4 (ix2 b s)) k := by
  have e : (a4 (ix2 b s) * rZ (fun k => a0 (ix3 b s k)) (fun k => a1 (ix3 b s k)) (fun k => a2 (ix1 k)) (a3 (ix2 b s)) (a4 (ix2 b s)) k) * INV (rV (fun k => a0 (ix3 b s k)) (fun k => a1 (ix3 b s k)) (fun k => a2 (ix1 k)) (a3 (ix2 b s)) (a4 (ix2 b s))) = rZ (fun k => a0 (ix3 b s k)) (fun k => a1 (ix3 b s k)) (fun k => a2 (ix1 k)) (a3 (ix2 b s)) (a4 (ix2 b s)) k * (a4 (ix2 b s) * INV (rV (fun k => a0 (ix3 b s k)) (fun k => a1 (ix3 b s k)) (fun k => a2 (ix1 k)) (a3 (ix2 b s)) (a4 (ix2 b s)))) := by
    rw [mul_comm (a4 (ix2 b s)), mul_assoc]
  rw [rcode', rinv _ _ _ _ _ _ _ hv, rdx, e]
  unfold rCODE CODE
  exact rfl

/-- The sum over the first two axes, as the sum over both. -/
theorem sum_rows_gen (h : S30x1024x4096.ReducesTo [0, 1] S4096) (x : S30x1024x4096.Idx → EReal) (j : S4096.Idx) :
    Ideal.hostReduceAdd h x 0 j = ∑ b : Fin 30, ∑ s : Fin 1024, x (ix3 b s (j 0)) := by
  refine (zero_add _).trans ?_
  refine (Finset.sum_filter_eq_sum_of_fiber _ (fun k : Fin 30 × Fin 1024 => (ix3 k.1 k.2 (j 0) : S30x1024x4096.Idx))
    (fun _ _ e => Prod.ext (congrFun e 0) (congrFun e 1)) (fun i => ?_) x).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]
theorem sum_rows (x : S30x1024x4096.Idx → EReal) (j : S4096.Idx) :
    Ideal.hostReduceAdd reducesTo_S30x1024x4096_S4096_d0_1 x 0 j = ∑ b : Fin 30, ∑ s : Fin 1024, x (ix3 b s (j 0)) :=
  sum_rows_gen _ x j
theorem rdg (j : S4096.Idx) : (RDG a0 a1 a3 a4 j : EReal) = ∑ b : Fin 30, ∑ s : Fin 1024, a1 (ix3 b s (j 0)) * ((a0 (ix3 b s (j 0)) - a3 (ix2 b s)) * a4 (ix2 b s)) := by
  have h : (RDG a0 a1 a3 a4 j : EReal) = Ideal.hostReduceAdd reducesTo_S30x1024x4096_S4096_d0_1 (mulf (F := Ideal) (φ := .f32) (extf (F := Ideal) (φ := .bf16) .f32 a1 bitsLt_bf16_f32) (RXH a0 a3 a4)) 0 j := by
    pointwise [RDG]
  rw [h, sum_rows]
  refine Finset.sum_congr rfl fun b _ => Finset.sum_congr rfl fun s _ => ?_
  show a1 (ix3 b s (j 0)) * (RXH a0 a3 a4 (ix3 b s (j 0)) : EReal) = _
  rw [rxh]
  rfl
theorem rdb (j : S4096.Idx) : (RDB a1 j : EReal) = ∑ b : Fin 30, ∑ s : Fin 1024, a1 (ix3 b s (j 0)) := by
  have h : (RDB a1 j : EReal) = Ideal.hostReduceAdd reducesTo_S30x1024x4096_S4096_d0_1 (extf (F := Ideal) (φ := .bf16) .f32 a1 bitsLt_bf16_f32) 0 j := by
    pointwise [RDB]
  rw [h, sum_rows]
  rfl

end Cert.ReferenceIdeal.Gen

end
-- ==== Proof.Value.RefEnd.lean ====
module

public import proofs.«01_k».proof.Proof.Value.RefP

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The reference's four results after the run.
-/
variable (m : (ℓ : Loc nD τ sig) → Buf (Elt Ideal) ℓ) (ρ : Dev nD → PrngReg)
theorem pay_eq (x : FVec Ideal S30x1024x4096 .f32) (j : S30x1024x4096.Idx) : (k0_pay1 (F := Ideal) x : S30x1024x4096.Idx → EReal) j = (x : S30x1024x4096.Idx → EReal) j := by
  pointwise [k0_pay1]
theorem out_eq (x : FVec Ideal S30x1024x4096 .f32) (j : S30x1024x4096.Idx) : (out0_1 (F := Ideal) x : S30x1024x4096.Idx → EReal) j = (x : S30x1024x4096.Idx → EReal) j := by
  frame_out
  refine (pay_eq _ _).trans ?_
  blk_point
theorem idx0 : win0_0.index t0_0 = ![0, 0, 0] := by decide +kernel
theorem blk_eq (c : Dev nD) (j : S30x1024x4096.Idx) :
    (iblk m c 0 t0_0 : S30x1024x4096.Idx → EReal) j = (V m c main_v60 : S30x1024x4096.Idx → EReal) j := by
  unfold iblk
  show (V m c main_v60 : S30x1024x4096.Idx → EReal) _ = (V m c main_v60 : S30x1024x4096.Idx → EReal) _
  refine congrArg (V m c main_v60 : S30x1024x4096.Idx → EReal) ?_
  blk_ext [idx0]
theorem after_eq (c : Dev nD) (j : S30x1024x4096.Idx) : ((dats m 0 c).after 1 t0_0 : S30x1024x4096.Idx → EReal) j = (V m c main_v60 : S30x1024x4096.Idx → EReal) j := by
  rw [after0_1]
  exact (out_eq _ _).trans (blk_eq m c _)
theorem whole1 : (cfg0.win 1).WholeAt t0_0 := by decide +kernel
theorem arr61 (c : Dev nD) : (dats m 0 c).arrAt 1 cfg0.N = V m c main_v60 :=
  (dats m 0 c).arrAt_eq_of_after_last 1 t0_0 whole1 (V m c main_v60) fun j => after_eq m c j

theorem results : θ_run defs (onTc (τ := τ) (main (F := Ideal))) ⟨m, fun _ => 0, ρ⟩ (fun r => ∀ c : Dev nD,
    (r.2.mem ((c.tc : Thread nD τ).loc main_v28) : S4096.Idx → EReal) = RDG (m ((c.tc : Thread nD τ).loc main_arg0)) (m ((c.tc : Thread nD τ).loc main_arg1)) (m ((c.tc : Thread nD τ).loc main_arg3)) (m ((c.tc : Thread nD τ).loc main_arg4))
    ∧ (r.2.mem ((c.tc : Thread nD τ).loc main_v29) : S4096.Idx → EReal) = RDB (m ((c.tc : Thread nD τ).loc main_arg1))
    ∧ (r.2.mem ((c.tc : Thread nD τ).loc main_v61) : S30x1024x4096.Idx → EReal) = RCODE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ (r.2.mem ((c.tc : Thread nD τ).loc main_v54) : S30x1024x1.Idx → EReal) = RP2 (REXP (RAMAX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨
    ((h c).2 main_v28 (Pipeline.mem_restRefs_of main_v28 (by decide) (by decide))).trans (t28 m c),
    ((h c).2 main_v29 (Pipeline.mem_restRefs_of main_v29 (by decide) (by decide))).trans (t29 m c),
    ((h c).1 1).trans ((arr61 m c).trans (t60 m c)),
    ((h c).2 main_v54 (Pipeline.mem_restRefs_of main_v54 (by decide) (by decide))).trans (t54 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.ReferenceIdeal.Gen

end
-- ==== Proof.Value.PreV.lean ====
module

public import proofs.«01_k».proof.Proof.Value.RefP
public import proofs.«01_k».proof.Pre_in_range
public import Idealize.ShloMosaic.Lib.Affine

@[expose] public section

set_option maxRecDepth 16384

noncomputable section

namespace Cert.Pre_in_range.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-
  The precondition, read.
-/

/-! ## The facts -/

theorem bitsLt_bf16_f32 : FTy.bits .bf16 < FTy.bits .f32 := by decide
theorem bcast_S30x1024_S30x1024x1_0_1 : S30x1024.BroadcastsInDim S30x1024x1 (![0, 1] : Fin 2 → Fin S30x1024x1.rank) := by decide
theorem bcast_S30x1024x1_S30x1024x4096_0_1_2 : S30x1024x1.BroadcastsInDim S30x1024x4096 (![0, 1, 2] : Fin 3 → Fin S30x1024x4096.rank) := by decide
theorem bcast_S4096_S1x1x4096_2 : S4096.BroadcastsInDim S1x1x4096 (![2] : Fin 1 → Fin S1x1x4096.rank) := by decide
theorem bcast_S1x1x4096_S30x1024x4096_0_1_2 : S1x1x4096.BroadcastsInDim S30x1024x4096 (![0, 1, 2] : Fin 3 → Fin S30x1024x4096.rank) := by decide
theorem reducesTo_S30x1024x4096_S30x1024_d2 : S30x1024x4096.ReducesTo [2] S30x1024 := by decide
theorem h_S_ : 0 < S_.numel := by decide
theorem bcast_S_S30x1024x1 : S_.BroadcastsInDim S30x1024x1 (![] : Fin 0 → Fin S30x1024x1.rank) := by decide
theorem reducesTo_S30x1024x1_S_d0_1_2 : S30x1024x1.ReducesTo [0, 1, 2] S_ := by decide

/-- The function's facts, proved: the instance it takes. -/
instance facts : Cert.Pre_in_range.Facts where
  bitsLt_bf16_f32 := @bitsLt_bf16_f32
  bcast_S30x1024_S30x1024x1_0_1 := @bcast_S30x1024_S30x1024x1_0_1
  bcast_S30x1024x1_S30x1024x4096_0_1_2 := @bcast_S30x1024x1_S30x1024x4096_0_1_2
  bcast_S4096_S1x1x4096_2 := @bcast_S4096_S1x1x4096_2
  bcast_S1x1x4096_S30x1024x4096_0_1_2 := @bcast_S1x1x4096_S30x1024x4096_0_1_2
  reducesTo_S30x1024x4096_S30x1024_d2 := @reducesTo_S30x1024x4096_S30x1024_d2
  h_S_ := @h_S_
  bcast_S_S30x1024x1 := @bcast_S_S30x1024x1
  reducesTo_S30x1024x1_S_d0_1_2 := @reducesTo_S30x1024x1_S_d0_1_2

theorem foldl_andi {ι : Type} (f : ι → BitVec 1) (l : List ι) (a : BitVec 1) (h : l.foldl (fun r n => IntOp.andi r (f n)) a = 1#1) : a = 1#1 ∧ ∀ n ∈ l, f n = 1#1 := by
  induction l generalizing a with
  | nil => exact ⟨h, fun n hn => absurd hn (by simp)⟩
  | cons y l ih =>
    obtain ⟨h1, h2⟩ := ih _ h
    have hb : ∀ c d : BitVec 1, IntOp.andi c d = 1#1 → c = 1#1 ∧ d = 1#1 := by decide
    obtain ⟨h3, h4⟩ := hb _ _ h1
    refine ⟨h3, fun n hn => ?_⟩
    rcases List.mem_cons.mp hn with e | e
    · rw [e]; exact h4
    · exact h2 n e
theorem reduce_all (x : IVec S30x1024x1 1) (i : IVec S_ 1)
    (h : (Host.reduce IntOp.andi x i reducesTo_S30x1024x1_S_d0_1_2 h_S_ : IVec S_ 1) = fun _ => 1#1) (j : S30x1024x1.Idx) : x j = 1#1 := by
  have h0 := congrFun h (fun a => absurd a.isLt (by decide +revert))
  have h1 := (foldl_andi (fun n => x (S30x1024x1.rowMajor.symm n)) _ _ h0).2 (S30x1024x1.rowMajor j) (List.mem_filter.mpr ⟨List.mem_finRange _, decide_eq_true (funext fun a => absurd a.isLt (by decide +revert))⟩)
  simpa using h1

variable (a0 a1 : S30x1024x4096.Idx → EReal) (a2 : S4096.Idx → EReal) (a3 a4 : S30x1024.Idx → EReal)
/-- The predicate's test of a vector of greatest values, entry by entry. -/
def TEST (v : FVec Ideal S30x1024x1 .f32) : IVec S30x1024x1 1 :=
  ori (cmpf .oeq (mulf v (broadcastInDim S30x1024x1 ![] bcast_S_S30x1024x1 (constant (F := Ideal) S_ .f32 0x37924925#32))) (broadcastInDim S30x1024x1 ![] bcast_S_S30x1024x1 (constant (F := Ideal) S_ .f32 0x00000000#32)))
    (andi (cmpf .oge (mulf v (broadcastInDim S30x1024x1 ![] bcast_S_S30x1024x1 (constant (F := Ideal) S_ .f32 0x37924925#32))) (broadcastInDim S30x1024x1 ![] bcast_S_S30x1024x1 (constant (F := Ideal) S_ .f32 0x00400000#32)))
      (cmpf .olt (mulf v (broadcastInDim S30x1024x1 ![] bcast_S_S30x1024x1 (constant (F := Ideal) S_ .f32 0x37924925#32))) (broadcastInDim S30x1024x1 ![] bcast_S_S30x1024x1 (constant (F := Ideal) S_ .f32 0x7E800000#32))))
theorem fn_eq : fn (F := Ideal) a0 a1 a2 a3 a4 = Host.reduce IntOp.andi (TEST (Cert.ReferenceIdeal.Gen.RAMAX a0 a1 a2 a3 a4))
    (constantI S_ 1 1#1) reducesTo_S30x1024x1_S_d0_1_2 h_S_ := rfl
theorem zero_bits : Ideal.ofBits .f32 0x00000000#32 = 0 := by simp [Ideal.ofBits, Ideal.ieee]
theorem ok_at (v : FVec Ideal S30x1024x1 .f32) (j : S30x1024x1.Idx) (h : TEST v j = 1#1) :
    Cert.ReferenceIdeal.Gen.OK ((show EReal from v j) * Ideal.ofBits .f32 0x37924925#32) := by
  have e : TEST v j = IntOp.ori (BitVec.ofBool (decide ((show EReal from v j) * Ideal.ofBits .f32 0x37924925#32 = Ideal.ofBits .f32 0x00000000#32)))
    (IntOp.andi (BitVec.ofBool (decide (Ideal.ofBits .f32 0x00400000#32 ≤ (show EReal from v j) * Ideal.ofBits .f32 0x37924925#32)))
      (BitVec.ofBool (decide ((show EReal from v j) * Ideal.ofBits .f32 0x37924925#32 < Ideal.ofBits .f32 0x7E800000#32)))) := rfl
  have hb : ∀ p q r : Bool, IntOp.ori (BitVec.ofBool p) (IntOp.andi (BitVec.ofBool q) (BitVec.ofBool r)) = 1#1 → p = true ∨ (q = true ∧ r = true) := by decide
  rcases hb _ _ _ (e.symm.trans h) with h | ⟨h, h'⟩
  · exact Or.inl ((of_decide_eq_true h).trans zero_bits)
  · exact Or.inr ⟨of_decide_eq_true h, of_decide_eq_true h'⟩
/-- Under the precondition every row's scaled greatest value lies in the range. -/
theorem below (h : fn (F := Ideal) a0 a1 a2 a3 a4 = fun _ => 1#1) (b : Fin 30) (s : Fin 1024) :
    Cert.ReferenceIdeal.Gen.OK (Cert.KernelIdeal.Gen.rV (fun k => a0 (ix3 b s k)) (fun k => a1 (ix3 b s k)) (fun k => a2 (ix1 k)) (a3 (ix2 b s)) (a4 (ix2 b s))) := by
  have h1 := ok_at _ _ (reduce_all _ _ ((fn_eq a0 a1 a2 a3 a4).symm.trans h) (ix3 b s 0))
  have h2 := Cert.ReferenceIdeal.Gen.ramax a0 a1 a2 a3 a4 b s
  unfold Cert.KernelIdeal.Gen.rV
  rw [← h2]
  exact h1

end Cert.Pre_in_range.Gen

end
-- ==== Proof.lean ====
module

public import proofs.«01_k».proof.Defs
public import proofs.«01_k».proof.Proof.KernelFrame.Frame
public import proofs.«01_k».proof.Proof.KernelIdealFrame.Frame
public import proofs.«01_k».proof.Proof.Gen.ReferenceIdeal.Frame
public import proofs.«01_k».proof.Proof.Value.End
public import proofs.«01_k».proof.Proof.Value.RefEnd
public import proofs.«01_k».proof.Proof.Value.PreV
public import Idealize.ShloMosaic.Adequacy
public import Idealize.ShloMosaic.Init

@[expose] public section

open Idealize.ShloMosaic Idealize.ShloMosaic.TcCoe Idealize.SL.Sem

namespace Cert.Proof

/-- Equal results: what the reference computes of the kernel's arguments is what the kernel computes of them. -/
theorem eq6 (m : (ℓ : Loc Cert.KernelIdeal.nD Cert.KernelIdeal.τ Cert.KernelIdeal.sig) → Buf (Elt Ideal) ℓ) (c : Dev Cert.KernelIdeal.nD) :
    Cert.ReferenceIdeal.Gen.RDG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = Cert.KernelIdeal.Gen.K6 m c := by
  funext j
  exact Cert.ReferenceIdeal.Gen.rdg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) j
theorem eq7 (m : (ℓ : Loc Cert.KernelIdeal.nD Cert.KernelIdeal.τ Cert.KernelIdeal.sig) → Buf (Elt Ideal) ℓ) (c : Dev Cert.KernelIdeal.nD) :
    Cert.ReferenceIdeal.Gen.RDB (m ((c.tc : Thread Cert.KernelIdeal.nD Cert.KernelIdeal.τ).loc Cert.KernelIdeal.main_arg1)) = Cert.KernelIdeal.Gen.K7 m c := by
  funext j
  exact Cert.ReferenceIdeal.Gen.rdb (m ((c.tc : Thread Cert.KernelIdeal.nD Cert.KernelIdeal.τ).loc Cert.KernelIdeal.main_arg1)) j
theorem eq8 (m : (ℓ : Loc Cert.KernelIdeal.nD Cert.KernelIdeal.τ Cert.KernelIdeal.sig) → Buf (Elt Ideal) ℓ) (c : Dev Cert.KernelIdeal.nD)
    (h : Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    Cert.ReferenceIdeal.Gen.RCODE (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = Cert.KernelIdeal.Gen.K8 m c := by
  funext j
  obtain ⟨b, s, k, rfl⟩ : ∃ (b : Fin 30) (s : Fin 1024) (k : Fin 4096), j = ix3 b s k := ⟨j 0, j 1, j 2, by
    funext a
    match a with
    | ⟨0, _⟩ => rfl
    | ⟨1, _⟩ => rfl
    | ⟨2, _⟩ => rfl⟩
  exact Cert.ReferenceIdeal.Gen.rcode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) b s k (Cert.Pre_in_range.Gen.below _ _ _ _ _ h b s)
theorem eq9 (m : (ℓ : Loc Cert.KernelIdeal.nD Cert.KernelIdeal.τ Cert.KernelIdeal.sig) → Buf (Elt Ideal) ℓ) (c : Dev Cert.KernelIdeal.nD)
    (h : Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    Cert.ReferenceIdeal.Gen.RP2 (Cert.ReferenceIdeal.Gen.REXP (Cert.ReferenceIdeal.Gen.RAMAX (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))) = Cert.KernelIdeal.Gen.K9 m c := by
  funext j
  obtain ⟨b, s, rfl⟩ : ∃ (b : Fin 30) (s : Fin 1024), j = ix3 b s 0 := ⟨j 0, j 1, by
    funext a
    match a with
    | ⟨0, _⟩ => rfl
    | ⟨1, _⟩ => rfl
    | ⟨2, _⟩ => exact Fin.ext (Nat.lt_one_iff.mp (j 2).isLt)⟩
  exact Cert.ReferenceIdeal.Gen.rscale (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) b s (Cert.Pre_in_range.Gen.below _ _ _ _ _ h b s)

theorem algebraic : Cert.algebraic_KernelIdeal_ReferenceIdeal_pre_in_range := by
  intro m g m' g' hpre harg
  refine ⟨fun c => Cert.KernelIdeal.Gen.K6 m c, fun c => Cert.KernelIdeal.Gen.K7 m c, fun c => Cert.KernelIdeal.Gen.K8 m c, fun c => Cert.KernelIdeal.Gen.K9 m c, Cert.KernelIdeal.Gen.results m g, ?_⟩
  refine (θ_run Cert.ReferenceIdeal.defs _ _).mono (fun r h c => ?_) (Cert.ReferenceIdeal.Gen.results m' g')
  obtain ⟨e0, e1, e2, e3, e4⟩ := harg c
  obtain ⟨h6, h7, h8, h9, hargs⟩ := h c
  rw [e0, e1, e3, e4] at h6
  rw [e1] at h7
  rw [e0, e1, e2, e3, e4] at h8 h9
  exact ⟨h6.trans (eq6 m c), h7.trans (eq7 m c), h8.trans (eq8 m c (hpre c)), h9.trans (eq9 m c (hpre c)), hargs⟩

theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
